-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![768, 6144]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![384, 768]⟩ ⟨2, ![6144, 768]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S768x768 : Shape := ⟨2, ![768, 768]⟩
abbrev S192x768 : Shape := ⟨2, ![192, 768]⟩
abbrev S4x192x768 : Shape := ⟨3, ![4, 192, 768]⟩
abbrev S4x48x768 : Shape := ⟨3, ![4, 48, 768]⟩
abbrev S30 : Shape := ⟨1, ![30]⟩
abbrev S16 : Shape := ⟨1, ![16]⟩
abbrev S4 : Shape := ⟨1, ![4]⟩
abbrev S_ : Shape := ⟨0, ![]⟩
abbrev S1 : Shape := ⟨1, ![1]⟩
abbrev S1x48x768 : Shape := ⟨3, ![1, 48, 768]⟩
abbrev S48x768 : Shape := ⟨2, ![48, 768]⟩

abbrev nBuf : Space → Nat
  | .hbm => 3
  | .vmem => 7
  | .smem => 0
  | _ => 0

abbrev bufTy : (tb : Table) → Fin (tcTables nBuf tb) → BufTy
  | .hbm, ⟨0, _⟩ => ⟨S768x384, .f32⟩
  | .hbm, ⟨1, _⟩ => ⟨S384x768, .f32⟩
  | .hbm, ⟨2, _⟩ => ⟨S768x768, .f32⟩
  | .local _ .vmem, ⟨0, _⟩ => ⟨S768x384, .f32⟩
  | .local _ .vmem, ⟨1, _⟩ => ⟨S384x768, .f32⟩
  | .local _ .vmem, ⟨2, _⟩ => ⟨S768x768, .f32⟩
  | .local _ .vmem, ⟨3, _⟩ => ⟨S768x768, .f32⟩
  | .local _ .vmem, ⟨4, _⟩ => ⟨S192x768, .f32⟩
  | .local _ .vmem, ⟨5, _⟩ => ⟨S4x192x768, .f32⟩
  | .local _ .vmem, ⟨6, _⟩ => ⟨S4x48x768, .f32⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v31 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v32 : BitVec 32 := Scalar.addi v29 c1_i32_12
  let c4_i32_13 : BitVec 32 := 4#32
  let c0_i32_14 : BitVec 32 := 0#32
  let v33 : BitVec 1 := Scalar.cmpi .eq c4_i32_13 c0_i32_14
  let c1_i32_15 : BitVec 32 := 1#32
  let v34 : BitVec 32 := Scalar.select v33 c1_i32_15 c4_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let v43 : BitVec 32 := Scalar.addi v31 v42
  let c1_i32_20 : BitVec 32 := 1#32
  let v44 : BitVec 32 := Scalar.muli v43 c1_i32_20
  let v45 : BitVec 32 := Scalar.addi c0_i32_21 v44
  v45.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_22 : BitVec 32 := 4#32
  let v46 : BitVec 32 := Scalar.muli v19 c4_i32_22
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v47 : BitVec 32 := Scalar.addi v29 c2_i32
  let c4_i32_23 : BitVec 32 := 4#32
  let c0_i32_24 : BitVec 32 := 0#32
  let v48 : BitVec 1 := Scalar.cmpi .eq c4_i32_23 c0_i32_24
  let c1_i32_25 : BitVec 32 := 1#32
  let v49 : BitVec 32 := Scalar.select v48 c1_i32_25 c4_i32_23
  let v50 : BitVec 32 := Scalar.remsi v47 v49
  let c0_i32_27 : BitVec 32 := 0#32
  let v52 : BitVec 1 := Scalar.cmpi .slt v50 c0_i32_27
  let c0_i32_28 : BitVec 32 := 0#32
  let v53 : BitVec 1 := Scalar.cmpi .slt v49 c0_i32_28
  let v54 : BitVec 1 := Scalar.xori v52 v53
  let c0_i32_26 : BitVec 32 := 0#32
  let v51 : BitVec 1 := Scalar.cmpi .ne v50 c0_i32_26
  let v55 : BitVec 1 := Scalar.andi v54 v51
  let v56 : BitVec 32 := Scalar.addi v50 v49
  let v57 : BitVec 32 := Scalar.select v55 v56 v50
  let v58 : BitVec 32 := Scalar.addi v46 v57
  let c1_i32_30 : BitVec 32 := 1#32
  let v59 : BitVec 32 := Scalar.muli v58 c1_i32_30
  let v60 : BitVec 32 := Scalar.addi c0_i32_31 v59
  v60.toNat
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_32 : BitVec 32 := 4#32
  let v61 : BitVec 32 := Scalar.muli v19 c4_i32_32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v62 : BitVec 32 := Scalar.addi v29 c3_i32
  let c4_i32_33 : BitVec 32 := 4#32
  let c0_i32_34 : BitVec 32 := 0#32
  let v63 : BitVec 1 := Scalar.cmpi .eq c4_i32_33 c0_i32_34
  let c1_i32_35 : BitVec 32 := 1#32
  let v64 : BitVec 32 := Scalar.select v63 c1_i32_35 c4_i32_33
  let v65 : BitVec 32 := Scalar.remsi v62 v64
  let c0_i32_37 : BitVec 32 := 0#32
  let v67 : BitVec 1 := Scalar.cmpi .slt v65 c0_i32_37
  let c0_i32_38 : BitVec 32 := 0#32
  let v68 : BitVec 1 := Scalar.cmpi .slt v64 c0_i32_38
  let v69 : BitVec 1 := Scalar.xori v67 v68
  let c0_i32_36 : BitVec 32 := 0#32
  let v66 : BitVec 1 := Scalar.cmpi .ne v65 c0_i32_36
  let v70 : BitVec 1 := Scalar.andi v69 v66
  let v71 : BitVec 32 := Scalar.addi v65 v64
  let v72 : BitVec 32 := Scalar.select v70 v71 v65
  let v73 : BitVec 32 := Scalar.addi v61 v72
  let c1_i32_40 : BitVec 32 := 1#32
  let v74 : BitVec 32 := Scalar.muli v73 c1_i32_40
  let v75 : BitVec 32 := Scalar.addi c0_i32_41 v74
  v75.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_42 : BitVec 32 := 1#32
  let v76 : BitVec 32 := Scalar.addi v19 c1_i32_42
  let c4_i32_43 : BitVec 32 := 4#32
  let c0_i32_44 : BitVec 32 := 0#32
  let v77 : BitVec 1 := Scalar.cmpi .eq c4_i32_43 c0_i32_44
  let c1_i32_45 : BitVec 32 := 1#32
  let v78 : BitVec 32 := Scalar.select v77 c1_i32_45 c4_i32_43
  let v79 : BitVec 32 := Scalar.remsi v76 v78
  let c0_i32_47 : BitVec 32 := 0#32
  let v81 : BitVec 1 := Scalar.cmpi .slt v79 c0_i32_47
  let c0_i32_48 : BitVec 32 := 0#32
  let v82 : BitVec 1 := Scalar.cmpi .slt v78 c0_i32_48
  let v83 : BitVec 1 := Scalar.xori v81 v82
  let c0_i32_46 : BitVec 32 := 0#32
  let v80 : BitVec 1 := Scalar.cmpi .ne v79 c0_i32_46
  let v84 : BitVec 1 := Scalar.andi v83 v80
  let v85 : BitVec 32 := Scalar.addi v79 v78
  let v86 : BitVec 32 := Scalar.select v84 v85 v79
  let c4_i32_49 : BitVec 32 := 4#32
  let v87 : BitVec 32 := Scalar.muli v86 c4_i32_49
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v88 : BitVec 32 := Scalar.addi v87 v29
  let c1_i32_51 : BitVec 32 := 1#32
  let v89 : BitVec 32 := Scalar.muli v88 c1_i32_51
  let v90 : BitVec 32 := Scalar.addi c0_i32_52 v89
  v90.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_53 : BitVec 32 := 2#32
  let v91 : BitVec 32 := Scalar.addi v19 c2_i32_53
  let c4_i32_54 : BitVec 32 := 4#32
  let c0_i32_55 : BitVec 32 := 0#32
  let v92 : BitVec 1 := Scalar.cmpi .eq c4_i32_54 c0_i32_55
  let c1_i32_56 : BitVec 32 := 1#32
  let v93 : BitVec 32 := Scalar.select v92 c1_i32_56 c4_i32_54
  let v94 : BitVec 32 := Scalar.remsi v91 v93
  let c0_i32_58 : BitVec 32 := 0#32
  let v96 : BitVec 1 := Scalar.cmpi .slt v94 c0_i32_58
  let c0_i32_59 : BitVec 32 := 0#32
  let v97 : BitVec 1 := Scalar.cmpi .slt v93 c0_i32_59
  let v98 : BitVec 1 := Scalar.xori v96 v97
  let c0_i32_57 : BitVec 32 := 0#32
  let v95 : BitVec 1 := Scalar.cmpi .ne v94 c0_i32_57
  let v99 : BitVec 1 := Scalar.andi v98 v95
  let v100 : BitVec 32 := Scalar.addi v94 v93
  let v101 : BitVec 32 := Scalar.select v99 v100 v94
  let c4_i32_60 : BitVec 32 := 4#32
  let v102 : BitVec 32 := Scalar.muli v101 c4_i32_60
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v103 : BitVec 32 := Scalar.addi v102 v29
  let c1_i32_62 : BitVec 32 := 1#32
  let v104 : BitVec 32 := Scalar.muli v103 c1_i32_62
  let v105 : BitVec 32 := Scalar.addi c0_i32_63 v104
  v105.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_64 : BitVec 32 := 3#32
  let v106 : BitVec 32 := Scalar.addi v19 c3_i32_64
  let c4_i32_65 : BitVec 32 := 4#32
  let c0_i32_66 : BitVec 32 := 0#32
  let v107 : BitVec 1 := Scalar.cmpi .eq c4_i32_65 c0_i32_66
  let c1_i32_67 : BitVec 32 := 1#32
  let v108 : BitVec 32 := Scalar.select v107 c1_i32_67 c4_i32_65
  let v109 : BitVec 32 := Scalar.remsi v106 v108
  let c0_i32_69 : BitVec 32 := 0#32
  let v111 : BitVec 1 := Scalar.cmpi .slt v109 c0_i32_69
  let c0_i32_70 : BitVec 32 := 0#32
  let v112 : BitVec 1 := Scalar.cmpi .slt v108 c0_i32_70
  let v113 : BitVec 1 := Scalar.xori v111 v112
  let c0_i32_68 : BitVec 32 := 0#32
  let v110 : BitVec 1 := Scalar.cmpi .ne v109 c0_i32_68
  let v114 : BitVec 1 := Scalar.andi v113 v110
  let v115 : BitVec 32 := Scalar.addi v109 v108
  let v116 : BitVec 32 := Scalar.select v114 v115 v109
  let c4_i32_71 : BitVec 32 := 4#32
  let v117 : BitVec 32 := Scalar.muli v116 c4_i32_71
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v118 : BitVec 32 := Scalar.addi v117 v29
  let c1_i32_73 : BitVec 32 := 1#32
  let v119 : BitVec 32 := Scalar.muli v118 c1_i32_73
  let v120 : BitVec 32 := Scalar.addi c0_i32_74 v119
  v120.toNat
def k0_off1 (d0 : Dev nD) (c1_i32_80 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_95 : BitVec 32 := 4#32
  let v155 : BitVec 32 := Scalar.muli v29 c4_i32_95
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v129 : BitVec 32 := Scalar.addi v19 c1_i32_80
  let c4_i32_81 : BitVec 32 := 4#32
  let c0_i32_82 : BitVec 32 := 0#32
  let v130 : BitVec 1 := Scalar.cmpi .eq c4_i32_81 c0_i32_82
  let c1_i32_83 : BitVec 32 := 1#32
  let v131 : BitVec 32 := Scalar.select v130 c1_i32_83 c4_i32_81
  let v132 : BitVec 32 := Scalar.remsi v129 v131
  let c0_i32_85 : BitVec 32 := 0#32
  let v134 : BitVec 1 := Scalar.cmpi .slt v132 c0_i32_85
  let c0_i32_86 : BitVec 32 := 0#32
  let v135 : BitVec 1 := Scalar.cmpi .slt v131 c0_i32_86
  let v136 : BitVec 1 := Scalar.xori v134 v135
  let c0_i32_84 : BitVec 32 := 0#32
  let v133 : BitVec 1 := Scalar.cmpi .ne v132 c0_i32_84
  let v137 : BitVec 1 := Scalar.andi v136 v133
  let v138 : BitVec 32 := Scalar.addi v132 v131
  let v139 : BitVec 32 := Scalar.select v137 v138 v132
  let v156 : BitVec 32 := Scalar.addi v155 v139
  ![v156.toNat]
def k0_off2 (d0 : Dev nD) (c1_i32_80 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v129 : BitVec 32 := Scalar.addi v19 c1_i32_80
  let c4_i32_81 : BitVec 32 := 4#32
  let c0_i32_82 : BitVec 32 := 0#32
  let v130 : BitVec 1 := Scalar.cmpi .eq c4_i32_81 c0_i32_82
  let c1_i32_83 : BitVec 32 := 1#32
  let v131 : BitVec 32 := Scalar.select v130 c1_i32_83 c4_i32_81
  let v132 : BitVec 32 := Scalar.remsi v129 v131
  let c0_i32_85 : BitVec 32 := 0#32
  let v134 : BitVec 1 := Scalar.cmpi .slt v132 c0_i32_85
  let c0_i32_86 : BitVec 32 := 0#32
  let v135 : BitVec 1 := Scalar.cmpi .slt v131 c0_i32_86
  let v136 : BitVec 1 := Scalar.xori v134 v135
  let c0_i32_84 : BitVec 32 := 0#32
  let v133 : BitVec 1 := Scalar.cmpi .ne v132 c0_i32_84
  let v137 : BitVec 1 := Scalar.andi v136 v133
  let v138 : BitVec 32 := Scalar.addi v132 v131
  let v139 : BitVec 32 := Scalar.select v137 v138 v132
  let c48_i32_94 : BitVec 32 := 48#32
  let v154 : BitVec 32 := Scalar.muli v139 c48_i32_94
  let c0_i32_107 : BitVec 32 := 0#32
  ![v29.toNat, v154.toNat, 0]
def k0_off3 (d0 : Dev nD) (c1_i32_87 : BitVec 32) (c1_i32_80 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v140 : BitVec 32 := Scalar.addi v29 c1_i32_87
  let c4_i32_88 : BitVec 32 := 4#32
  let c0_i32_89 : BitVec 32 := 0#32
  let v141 : BitVec 1 := Scalar.cmpi .eq c4_i32_88 c0_i32_89
  let c1_i32_90 : BitVec 32 := 1#32
  let v142 : BitVec 32 := Scalar.select v141 c1_i32_90 c4_i32_88
  let v143 : BitVec 32 := Scalar.remsi v140 v142
  let c0_i32_92 : BitVec 32 := 0#32
  let v145 : BitVec 1 := Scalar.cmpi .slt v143 c0_i32_92
  let c0_i32_93 : BitVec 32 := 0#32
  let v146 : BitVec 1 := Scalar.cmpi .slt v142 c0_i32_93
  let v147 : BitVec 1 := Scalar.xori v145 v146
  let c0_i32_91 : BitVec 32 := 0#32
  let v144 : BitVec 1 := Scalar.cmpi .ne v143 c0_i32_91
  let v148 : BitVec 1 := Scalar.andi v147 v144
  let v149 : BitVec 32 := Scalar.addi v143 v142
  let v150 : BitVec 32 := Scalar.select v148 v149 v143
  let c192_i32 : BitVec 32 := 192#32
  let v151 : BitVec 32 := Scalar.muli v150 c192_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v129 : BitVec 32 := Scalar.addi v19 c1_i32_80
  let c4_i32_81 : BitVec 32 := 4#32
  let c0_i32_82 : BitVec 32 := 0#32
  let v130 : BitVec 1 := Scalar.cmpi .eq c4_i32_81 c0_i32_82
  let c1_i32_83 : BitVec 32 := 1#32
  let v131 : BitVec 32 := Scalar.select v130 c1_i32_83 c4_i32_81
  let v132 : BitVec 32 := Scalar.remsi v129 v131
  let c0_i32_85 : BitVec 32 := 0#32
  let v134 : BitVec 1 := Scalar.cmpi .slt v132 c0_i32_85
  let c0_i32_86 : BitVec 32 := 0#32
  let v135 : BitVec 1 := Scalar.cmpi .slt v131 c0_i32_86
  let v136 : BitVec 1 := Scalar.xori v134 v135
  let c0_i32_84 : BitVec 32 := 0#32
  let v133 : BitVec 1 := Scalar.cmpi .ne v132 c0_i32_84
  let v137 : BitVec 1 := Scalar.andi v136 v133
  let v138 : BitVec 32 := Scalar.addi v132 v131
  let v139 : BitVec 32 := Scalar.select v137 v138 v132
  let c48_i32 : BitVec 32 := 48#32
  let v152 : BitVec 32 := Scalar.muli v139 c48_i32
  let v153 : BitVec 32 := Scalar.addi v151 v152
  let c0_i32_108 : BitVec 32 := 0#32
  ![v153.toNat, 0]
def k0_dev7 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_96 : BitVec 32 := 4#32
  let v157 : BitVec 32 := Scalar.muli v19 c4_i32_96
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_97 : BitVec 32 := 1#32
  let v158 : BitVec 32 := Scalar.addi v29 c1_i32_97
  let c4_i32_98 : BitVec 32 := 4#32
  let c0_i32_99 : BitVec 32 := 0#32
  let v159 : BitVec 1 := Scalar.cmpi .eq c4_i32_98 c0_i32_99
  let c1_i32_100 : BitVec 32 := 1#32
  let v160 : BitVec 32 := Scalar.select v159 c1_i32_100 c4_i32_98
  let v161 : BitVec 32 := Scalar.remsi v158 v160
  let c0_i32_102 : BitVec 32 := 0#32
  let v163 : BitVec 1 := Scalar.cmpi .slt v161 c0_i32_102
  let c0_i32_103 : BitVec 32 := 0#32
  let v164 : BitVec 1 := Scalar.cmpi .slt v160 c0_i32_103
  let v165 : BitVec 1 := Scalar.xori v163 v164
  let c0_i32_101 : BitVec 32 := 0#32
  let v162 : BitVec 1 := Scalar.cmpi .ne v161 c0_i32_101
  let v166 : BitVec 1 := Scalar.andi v165 v162
  let v167 : BitVec 32 := Scalar.addi v161 v160
  let v168 : BitVec 32 := Scalar.select v166 v167 v161
  let v169 : BitVec 32 := Scalar.addi v157 v168
  let c1_i32_105 : BitVec 32 := 1#32
  let v170 : BitVec 32 := Scalar.muli v169 c1_i32_105
  let v171 : BitVec 32 := Scalar.addi c0_i32_106 v170
  v171.toNat
def k0_dev8 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_120 : BitVec 32 := 4#32
  let v196 : BitVec 32 := Scalar.muli v19 c4_i32_120
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_121 : BitVec 32 := 2#32
  let v197 : BitVec 32 := Scalar.addi v29 c2_i32_121
  let c4_i32_122 : BitVec 32 := 4#32
  let c0_i32_123 : BitVec 32 := 0#32
  let v198 : BitVec 1 := Scalar.cmpi .eq c4_i32_122 c0_i32_123
  let c1_i32_124 : BitVec 32 := 1#32
  let v199 : BitVec 32 := Scalar.select v198 c1_i32_124 c4_i32_122
  let v200 : BitVec 32 := Scalar.remsi v197 v199
  let c0_i32_126 : BitVec 32 := 0#32
  let v202 : BitVec 1 := Scalar.cmpi .slt v200 c0_i32_126
  let c0_i32_127 : BitVec 32 := 0#32
  let v203 : BitVec 1 := Scalar.cmpi .slt v199 c0_i32_127
  let v204 : BitVec 1 := Scalar.xori v202 v203
  let c0_i32_125 : BitVec 32 := 0#32
  let v201 : BitVec 1 := Scalar.cmpi .ne v200 c0_i32_125
  let v205 : BitVec 1 := Scalar.andi v204 v201
  let v206 : BitVec 32 := Scalar.addi v200 v199
  let v207 : BitVec 32 := Scalar.select v205 v206 v200
  let v208 : BitVec 32 := Scalar.addi v196 v207
  let c1_i32_129 : BitVec 32 := 1#32
  let v209 : BitVec 32 := Scalar.muli v208 c1_i32_129
  let v210 : BitVec 32 := Scalar.addi c0_i32_130 v209
  v210.toNat
def k0_dev9 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_144 : BitVec 32 := 4#32
  let v235 : BitVec 32 := Scalar.muli v19 c4_i32_144
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_145 : BitVec 32 := 3#32
  let v236 : BitVec 32 := Scalar.addi v29 c3_i32_145
  let c4_i32_146 : BitVec 32 := 4#32
  let c0_i32_147 : BitVec 32 := 0#32
  let v237 : BitVec 1 := Scalar.cmpi .eq c4_i32_146 c0_i32_147
  let c1_i32_148 : BitVec 32 := 1#32
  let v238 : BitVec 32 := Scalar.select v237 c1_i32_148 c4_i32_146
  let v239 : BitVec 32 := Scalar.remsi v236 v238
  let c0_i32_150 : BitVec 32 := 0#32
  let v241 : BitVec 1 := Scalar.cmpi .slt v239 c0_i32_150
  let c0_i32_151 : BitVec 32 := 0#32
  let v242 : BitVec 1 := Scalar.cmpi .slt v238 c0_i32_151
  let v243 : BitVec 1 := Scalar.xori v241 v242
  let c0_i32_149 : BitVec 32 := 0#32
  let v240 : BitVec 1 := Scalar.cmpi .ne v239 c0_i32_149
  let v244 : BitVec 1 := Scalar.andi v243 v240
  let v245 : BitVec 32 := Scalar.addi v239 v238
  let v246 : BitVec 32 := Scalar.select v244 v245 v239
  let v247 : BitVec 32 := Scalar.addi v235 v246
  let c1_i32_153 : BitVec 32 := 1#32
  let v248 : BitVec 32 := Scalar.muli v247 c1_i32_153
  let v249 : BitVec 32 := Scalar.addi c0_i32_154 v248
  v249.toNat
def k0_dev10 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_175 : BitVec 32 := 4#32
  let v285 : BitVec 32 := Scalar.muli v19 c4_i32_175
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_176 : BitVec 32 := 1#32
  let v286 : BitVec 32 := Scalar.addi v29 c1_i32_176
  let c4_i32_177 : BitVec 32 := 4#32
  let c0_i32_178 : BitVec 32 := 0#32
  let v287 : BitVec 1 := Scalar.cmpi .eq c4_i32_177 c0_i32_178
  let c1_i32_179 : BitVec 32 := 1#32
  let v288 : BitVec 32 := Scalar.select v287 c1_i32_179 c4_i32_177
  let v289 : BitVec 32 := Scalar.remsi v286 v288
  let c0_i32_181 : BitVec 32 := 0#32
  let v291 : BitVec 1 := Scalar.cmpi .slt v289 c0_i32_181
  let c0_i32_182 : BitVec 32 := 0#32
  let v292 : BitVec 1 := Scalar.cmpi .slt v288 c0_i32_182
  let v293 : BitVec 1 := Scalar.xori v291 v292
  let c0_i32_180 : BitVec 32 := 0#32
  let v290 : BitVec 1 := Scalar.cmpi .ne v289 c0_i32_180
  let v294 : BitVec 1 := Scalar.andi v293 v290
  let v295 : BitVec 32 := Scalar.addi v289 v288
  let v296 : BitVec 32 := Scalar.select v294 v295 v289
  let v297 : BitVec 32 := Scalar.addi v285 v296
  let c1_i32_184 : BitVec 32 := 1#32
  let v298 : BitVec 32 := Scalar.muli v297 c1_i32_184
  let v299 : BitVec 32 := Scalar.addi c0_i32_185 v298
  v299.toNat
def k0_dev11 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_199 : BitVec 32 := 4#32
  let v324 : BitVec 32 := Scalar.muli v19 c4_i32_199
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_200 : BitVec 32 := 2#32
  let v325 : BitVec 32 := Scalar.addi v29 c2_i32_200
  let c4_i32_201 : BitVec 32 := 4#32
  let c0_i32_202 : BitVec 32 := 0#32
  let v326 : BitVec 1 := Scalar.cmpi .eq c4_i32_201 c0_i32_202
  let c1_i32_203 : BitVec 32 := 1#32
  let v327 : BitVec 32 := Scalar.select v326 c1_i32_203 c4_i32_201
  let v328 : BitVec 32 := Scalar.remsi v325 v327
  let c0_i32_205 : BitVec 32 := 0#32
  let v330 : BitVec 1 := Scalar.cmpi .slt v328 c0_i32_205
  let c0_i32_206 : BitVec 32 := 0#32
  let v331 : BitVec 1 := Scalar.cmpi .slt v327 c0_i32_206
  let v332 : BitVec 1 := Scalar.xori v330 v331
  let c0_i32_204 : BitVec 32 := 0#32
  let v329 : BitVec 1 := Scalar.cmpi .ne v328 c0_i32_204
  let v333 : BitVec 1 := Scalar.andi v332 v329
  let v334 : BitVec 32 := Scalar.addi v328 v327
  let v335 : BitVec 32 := Scalar.select v333 v334 v328
  let v336 : BitVec 32 := Scalar.addi v324 v335
  let c1_i32_208 : BitVec 32 := 1#32
  let v337 : BitVec 32 := Scalar.muli v336 c1_i32_208
  let v338 : BitVec 32 := Scalar.addi c0_i32_209 v337
  v338.toNat
def k0_dev12 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_223 : BitVec 32 := 4#32
  let v363 : BitVec 32 := Scalar.muli v19 c4_i32_223
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_224 : BitVec 32 := 3#32
  let v364 : BitVec 32 := Scalar.addi v29 c3_i32_224
  let c4_i32_225 : BitVec 32 := 4#32
  let c0_i32_226 : BitVec 32 := 0#32
  let v365 : BitVec 1 := Scalar.cmpi .eq c4_i32_225 c0_i32_226
  let c1_i32_227 : BitVec 32 := 1#32
  let v366 : BitVec 32 := Scalar.select v365 c1_i32_227 c4_i32_225
  let v367 : BitVec 32 := Scalar.remsi v364 v366
  let c0_i32_229 : BitVec 32 := 0#32
  let v369 : BitVec 1 := Scalar.cmpi .slt v367 c0_i32_229
  let c0_i32_230 : BitVec 32 := 0#32
  let v370 : BitVec 1 := Scalar.cmpi .slt v366 c0_i32_230
  let v371 : BitVec 1 := Scalar.xori v369 v370
  let c0_i32_228 : BitVec 32 := 0#32
  let v368 : BitVec 1 := Scalar.cmpi .ne v367 c0_i32_228
  let v372 : BitVec 1 := Scalar.andi v371 v368
  let v373 : BitVec 32 := Scalar.addi v367 v366
  let v374 : BitVec 32 := Scalar.select v372 v373 v367
  let v375 : BitVec 32 := Scalar.addi v363 v374
  let c1_i32_231 : BitVec 32 := 1#32
  let v376 : BitVec 32 := Scalar.muli v375 c1_i32_231
  let v377 : BitVec 32 := Scalar.addi c0_i32_232 v376
  v377.toNat
def k0_dev13 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_253 : BitVec 32 := 4#32
  let v413 : BitVec 32 := Scalar.muli v19 c4_i32_253
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_254 : BitVec 32 := 1#32
  let v414 : BitVec 32 := Scalar.addi v29 c1_i32_254
  let c4_i32_255 : BitVec 32 := 4#32
  let c0_i32_256 : BitVec 32 := 0#32
  let v415 : BitVec 1 := Scalar.cmpi .eq c4_i32_255 c0_i32_256
  let c1_i32_257 : BitVec 32 := 1#32
  let v416 : BitVec 32 := Scalar.select v415 c1_i32_257 c4_i32_255
  let v417 : BitVec 32 := Scalar.remsi v414 v416
  let c0_i32_259 : BitVec 32 := 0#32
  let v419 : BitVec 1 := Scalar.cmpi .slt v417 c0_i32_259
  let c0_i32_260 : BitVec 32 := 0#32
  let v420 : BitVec 1 := Scalar.cmpi .slt v416 c0_i32_260
  let v421 : BitVec 1 := Scalar.xori v419 v420
  let c0_i32_258 : BitVec 32 := 0#32
  let v418 : BitVec 1 := Scalar.cmpi .ne v417 c0_i32_258
  let v422 : BitVec 1 := Scalar.andi v421 v418
  let v423 : BitVec 32 := Scalar.addi v417 v416
  let v424 : BitVec 32 := Scalar.select v422 v423 v417
  let v425 : BitVec 32 := Scalar.addi v413 v424
  let c1_i32_262 : BitVec 32 := 1#32
  let v426 : BitVec 32 := Scalar.muli v425 c1_i32_262
  let v427 : BitVec 32 := Scalar.addi c0_i32_263 v426
  v427.toNat
def k0_dev14 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_277 : BitVec 32 := 4#32
  let v452 : BitVec 32 := Scalar.muli v19 c4_i32_277
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_278 : BitVec 32 := 2#32
  let v453 : BitVec 32 := Scalar.addi v29 c2_i32_278
  let c4_i32_279 : BitVec 32 := 4#32
  let c0_i32_280 : BitVec 32 := 0#32
  let v454 : BitVec 1 := Scalar.cmpi .eq c4_i32_279 c0_i32_280
  let c1_i32_281 : BitVec 32 := 1#32
  let v455 : BitVec 32 := Scalar.select v454 c1_i32_281 c4_i32_279
  let v456 : BitVec 32 := Scalar.remsi v453 v455
  let c0_i32_283 : BitVec 32 := 0#32
  let v458 : BitVec 1 := Scalar.cmpi .slt v456 c0_i32_283
  let c0_i32_284 : BitVec 32 := 0#32
  let v459 : BitVec 1 := Scalar.cmpi .slt v455 c0_i32_284
  let v460 : BitVec 1 := Scalar.xori v458 v459
  let c0_i32_282 : BitVec 32 := 0#32
  let v457 : BitVec 1 := Scalar.cmpi .ne v456 c0_i32_282
  let v461 : BitVec 1 := Scalar.andi v460 v457
  let v462 : BitVec 32 := Scalar.addi v456 v455
  let v463 : BitVec 32 := Scalar.select v461 v462 v456
  let v464 : BitVec 32 := Scalar.addi v452 v463
  let c1_i32_285 : BitVec 32 := 1#32
  let v465 : BitVec 32 := Scalar.muli v464 c1_i32_285
  let v466 : BitVec 32 := Scalar.addi c0_i32_286 v465
  v466.toNat
def k0_dev15 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_300 : BitVec 32 := 4#32
  let v491 : BitVec 32 := Scalar.muli v19 c4_i32_300
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_301 : BitVec 32 := 3#32
  let v492 : BitVec 32 := Scalar.addi v29 c3_i32_301
  let c4_i32_302 : BitVec 32 := 4#32
  let c0_i32_303 : BitVec 32 := 0#32
  let v493 : BitVec 1 := Scalar.cmpi .eq c4_i32_302 c0_i32_303
  let c1_i32_304 : BitVec 32 := 1#32
  let v494 : BitVec 32 := Scalar.select v493 c1_i32_304 c4_i32_302
  let v495 : BitVec 32 := Scalar.remsi v492 v494
  let c0_i32_306 : BitVec 32 := 0#32
  let v497 : BitVec 1 := Scalar.cmpi .slt v495 c0_i32_306
  let c0_i32_307 : BitVec 32 := 0#32
  let v498 : BitVec 1 := Scalar.cmpi .slt v494 c0_i32_307
  let v499 : BitVec 1 := Scalar.xori v497 v498
  let c0_i32_305 : BitVec 32 := 0#32
  let v496 : BitVec 1 := Scalar.cmpi .ne v495 c0_i32_305
  let v500 : BitVec 1 := Scalar.andi v499 v496
  let v501 : BitVec 32 := Scalar.addi v495 v494
  let v502 : BitVec 32 := Scalar.select v500 v501 v495
  let v503 : BitVec 32 := Scalar.addi v491 v502
  let c1_i32_308 : BitVec 32 := 1#32
  let v504 : BitVec 32 := Scalar.muli v503 c1_i32_308
  let v505 : BitVec 32 := Scalar.addi c0_i32_309 v504
  v505.toNat
def k0_dev16 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_330 : BitVec 32 := 4#32
  let v541 : BitVec 32 := Scalar.muli v19 c4_i32_330
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_331 : BitVec 32 := 1#32
  let v542 : BitVec 32 := Scalar.addi v29 c1_i32_331
  let c4_i32_332 : BitVec 32 := 4#32
  let c0_i32_333 : BitVec 32 := 0#32
  let v543 : BitVec 1 := Scalar.cmpi .eq c4_i32_332 c0_i32_333
  let c1_i32_334 : BitVec 32 := 1#32
  let v544 : BitVec 32 := Scalar.select v543 c1_i32_334 c4_i32_332
  let v545 : BitVec 32 := Scalar.remsi v542 v544
  let c0_i32_336 : BitVec 32 := 0#32
  let v547 : BitVec 1 := Scalar.cmpi .slt v545 c0_i32_336
  let c0_i32_337 : BitVec 32 := 0#32
  let v548 : BitVec 1 := Scalar.cmpi .slt v544 c0_i32_337
  let v549 : BitVec 1 := Scalar.xori v547 v548
  let c0_i32_335 : BitVec 32 := 0#32
  let v546 : BitVec 1 := Scalar.cmpi .ne v545 c0_i32_335
  let v550 : BitVec 1 := Scalar.andi v549 v546
  let v551 : BitVec 32 := Scalar.addi v545 v544
  let v552 : BitVec 32 := Scalar.select v550 v551 v545
  let v553 : BitVec 32 := Scalar.addi v541 v552
  let c1_i32_338 : BitVec 32 := 1#32
  let v554 : BitVec 32 := Scalar.muli v553 c1_i32_338
  let v555 : BitVec 32 := Scalar.addi c0_i32_339 v554
  v555.toNat
def k0_dev17 (d0 : Dev nD) : Nat :=
  let c0_i32_362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_353 : BitVec 32 := 4#32
  let v580 : BitVec 32 := Scalar.muli v19 c4_i32_353
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_354 : BitVec 32 := 2#32
  let v581 : BitVec 32 := Scalar.addi v29 c2_i32_354
  let c4_i32_355 : BitVec 32 := 4#32
  let c0_i32_356 : BitVec 32 := 0#32
  let v582 : BitVec 1 := Scalar.cmpi .eq c4_i32_355 c0_i32_356
  let c1_i32_357 : BitVec 32 := 1#32
  let v583 : BitVec 32 := Scalar.select v582 c1_i32_357 c4_i32_355
  let v584 : BitVec 32 := Scalar.remsi v581 v583
  let c0_i32_359 : BitVec 32 := 0#32
  let v586 : BitVec 1 := Scalar.cmpi .slt v584 c0_i32_359
  let c0_i32_360 : BitVec 32 := 0#32
  let v587 : BitVec 1 := Scalar.cmpi .slt v583 c0_i32_360
  let v588 : BitVec 1 := Scalar.xori v586 v587
  let c0_i32_358 : BitVec 32 := 0#32
  let v585 : BitVec 1 := Scalar.cmpi .ne v584 c0_i32_358
  let v589 : BitVec 1 := Scalar.andi v588 v585
  let v590 : BitVec 32 := Scalar.addi v584 v583
  let v591 : BitVec 32 := Scalar.select v589 v590 v584
  let v592 : BitVec 32 := Scalar.addi v580 v591
  let c1_i32_361 : BitVec 32 := 1#32
  let v593 : BitVec 32 := Scalar.muli v592 c1_i32_361
  let v594 : BitVec 32 := Scalar.addi c0_i32_362 v593
  v594.toNat
def k0_dev18 (d0 : Dev nD) : Nat :=
  let c0_i32_385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_376 : BitVec 32 := 4#32
  let v619 : BitVec 32 := Scalar.muli v19 c4_i32_376
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_377 : BitVec 32 := 3#32
  let v620 : BitVec 32 := Scalar.addi v29 c3_i32_377
  let c4_i32_378 : BitVec 32 := 4#32
  let c0_i32_379 : BitVec 32 := 0#32
  let v621 : BitVec 1 := Scalar.cmpi .eq c4_i32_378 c0_i32_379
  let c1_i32_380 : BitVec 32 := 1#32
  let v622 : BitVec 32 := Scalar.select v621 c1_i32_380 c4_i32_378
  let v623 : BitVec 32 := Scalar.remsi v620 v622
  let c0_i32_382 : BitVec 32 := 0#32
  let v625 : BitVec 1 := Scalar.cmpi .slt v623 c0_i32_382
  let c0_i32_383 : BitVec 32 := 0#32
  let v626 : BitVec 1 := Scalar.cmpi .slt v622 c0_i32_383
  let v627 : BitVec 1 := Scalar.xori v625 v626
  let c0_i32_381 : BitVec 32 := 0#32
  let v624 : BitVec 1 := Scalar.cmpi .ne v623 c0_i32_381
  let v628 : BitVec 1 := Scalar.andi v627 v624
  let v629 : BitVec 32 := Scalar.addi v623 v622
  let v630 : BitVec 32 := Scalar.select v628 v629 v623
  let v631 : BitVec 32 := Scalar.addi v619 v630
  let c1_i32_384 : BitVec 32 := 1#32
  let v632 : BitVec 32 := Scalar.muli v631 c1_i32_384
  let v633 : BitVec 32 := Scalar.addi c0_i32_385 v632
  v633.toNat
def k0_off4 (d0 : Dev nD) (c1_i32_388 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c192_i32_395 : BitVec 32 := 192#32
  let v652 : BitVec 32 := Scalar.muli v29 c192_i32_395
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v641 : BitVec 32 := Scalar.addi v19 c1_i32_388
  let c4_i32_389 : BitVec 32 := 4#32
  let c0_i32_390 : BitVec 32 := 0#32
  let v642 : BitVec 1 := Scalar.cmpi .eq c4_i32_389 c0_i32_390
  let c1_i32_391 : BitVec 32 := 1#32
  let v643 : BitVec 32 := Scalar.select v642 c1_i32_391 c4_i32_389
  let v644 : BitVec 32 := Scalar.remsi v641 v643
  let c0_i32_393 : BitVec 32 := 0#32
  let v646 : BitVec 1 := Scalar.cmpi .slt v644 c0_i32_393
  let c0_i32_394 : BitVec 32 := 0#32
  let v647 : BitVec 1 := Scalar.cmpi .slt v643 c0_i32_394
  let v648 : BitVec 1 := Scalar.xori v646 v647
  let c0_i32_392 : BitVec 32 := 0#32
  let v645 : BitVec 1 := Scalar.cmpi .ne v644 c0_i32_392
  let v649 : BitVec 1 := Scalar.andi v648 v645
  let v650 : BitVec 32 := Scalar.addi v644 v643
  let v651 : BitVec 32 := Scalar.select v649 v650 v644
  let c48_i32_396 : BitVec 32 := 48#32
  let v653 : BitVec 32 := Scalar.muli v651 c48_i32_396
  let v654 : BitVec 32 := Scalar.addi v652 v653
  let v655 : Index := Scalar.indexCast v654
  let c0_397 : Index := 0#32
  ![v655.toNat, 0]
def k0_off5 (d0 : Dev nD) (c1_i32_398 : BitVec 32) (c1_i32_388 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v657 : BitVec 32 := Scalar.subi v29 c1_i32_398
  let c4_i32_399 : BitVec 32 := 4#32
  let c0_i32_400 : BitVec 32 := 0#32
  let v658 : BitVec 1 := Scalar.cmpi .eq c4_i32_399 c0_i32_400
  let c1_i32_401 : BitVec 32 := 1#32
  let v659 : BitVec 32 := Scalar.select v658 c1_i32_401 c4_i32_399
  let v660 : BitVec 32 := Scalar.remsi v657 v659
  let c0_i32_403 : BitVec 32 := 0#32
  let v662 : BitVec 1 := Scalar.cmpi .slt v660 c0_i32_403
  let c0_i32_404 : BitVec 32 := 0#32
  let v663 : BitVec 1 := Scalar.cmpi .slt v659 c0_i32_404
  let v664 : BitVec 1 := Scalar.xori v662 v663
  let c0_i32_402 : BitVec 32 := 0#32
  let v661 : BitVec 1 := Scalar.cmpi .ne v660 c0_i32_402
  let v665 : BitVec 1 := Scalar.andi v664 v661
  let v666 : BitVec 32 := Scalar.addi v660 v659
  let v667 : BitVec 32 := Scalar.select v665 v666 v660
  let c4_i32_407 : BitVec 32 := 4#32
  let v670 : BitVec 32 := Scalar.muli v667 c4_i32_407
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v641 : BitVec 32 := Scalar.addi v19 c1_i32_388
  let c4_i32_389 : BitVec 32 := 4#32
  let c0_i32_390 : BitVec 32 := 0#32
  let v642 : BitVec 1 := Scalar.cmpi .eq c4_i32_389 c0_i32_390
  let c1_i32_391 : BitVec 32 := 1#32
  let v643 : BitVec 32 := Scalar.select v642 c1_i32_391 c4_i32_389
  let v644 : BitVec 32 := Scalar.remsi v641 v643
  let c0_i32_393 : BitVec 32 := 0#32
  let v646 : BitVec 1 := Scalar.cmpi .slt v644 c0_i32_393
  let c0_i32_394 : BitVec 32 := 0#32
  let v647 : BitVec 1 := Scalar.cmpi .slt v643 c0_i32_394
  let v648 : BitVec 1 := Scalar.xori v646 v647
  let c0_i32_392 : BitVec 32 := 0#32
  let v645 : BitVec 1 := Scalar.cmpi .ne v644 c0_i32_392
  let v649 : BitVec 1 := Scalar.andi v648 v645
  let v650 : BitVec 32 := Scalar.addi v644 v643
  let v651 : BitVec 32 := Scalar.select v649 v650 v644
  let v671 : BitVec 32 := Scalar.addi v670 v651
  ![v671.toNat]
def k0_off6 (d0 : Dev nD) (c1_i32_398 : BitVec 32) (c1_i32_388 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v657 : BitVec 32 := Scalar.subi v29 c1_i32_398
  let c4_i32_399 : BitVec 32 := 4#32
  let c0_i32_400 : BitVec 32 := 0#32
  let v658 : BitVec 1 := Scalar.cmpi .eq c4_i32_399 c0_i32_400
  let c1_i32_401 : BitVec 32 := 1#32
  let v659 : BitVec 32 := Scalar.select v658 c1_i32_401 c4_i32_399
  let v660 : BitVec 32 := Scalar.remsi v657 v659
  let c0_i32_403 : BitVec 32 := 0#32
  let v662 : BitVec 1 := Scalar.cmpi .slt v660 c0_i32_403
  let c0_i32_404 : BitVec 32 := 0#32
  let v663 : BitVec 1 := Scalar.cmpi .slt v659 c0_i32_404
  let v664 : BitVec 1 := Scalar.xori v662 v663
  let c0_i32_402 : BitVec 32 := 0#32
  let v661 : BitVec 1 := Scalar.cmpi .ne v660 c0_i32_402
  let v665 : BitVec 1 := Scalar.andi v664 v661
  let v666 : BitVec 32 := Scalar.addi v660 v659
  let v667 : BitVec 32 := Scalar.select v665 v666 v660
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v641 : BitVec 32 := Scalar.addi v19 c1_i32_388
  let c4_i32_389 : BitVec 32 := 4#32
  let c0_i32_390 : BitVec 32 := 0#32
  let v642 : BitVec 1 := Scalar.cmpi .eq c4_i32_389 c0_i32_390
  let c1_i32_391 : BitVec 32 := 1#32
  let v643 : BitVec 32 := Scalar.select v642 c1_i32_391 c4_i32_389
  let v644 : BitVec 32 := Scalar.remsi v641 v643
  let c0_i32_393 : BitVec 32 := 0#32
  let v646 : BitVec 1 := Scalar.cmpi .slt v644 c0_i32_393
  let c0_i32_394 : BitVec 32 := 0#32
  let v647 : BitVec 1 := Scalar.cmpi .slt v643 c0_i32_394
  let v648 : BitVec 1 := Scalar.xori v646 v647
  let c0_i32_392 : BitVec 32 := 0#32
  let v645 : BitVec 1 := Scalar.cmpi .ne v644 c0_i32_392
  let v649 : BitVec 1 := Scalar.andi v648 v645
  let v650 : BitVec 32 := Scalar.addi v644 v643
  let v651 : BitVec 32 := Scalar.select v649 v650 v644
  let c48_i32_406 : BitVec 32 := 48#32
  let v669 : BitVec 32 := Scalar.muli v651 c48_i32_406
  let c0_i32_411 : BitVec 32 := 0#32
  ![v667.toNat, v669.toNat, 0]
def k0_off7 (d0 : Dev nD) (c1_i32_398 : BitVec 32) (c1_i32_388 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v657 : BitVec 32 := Scalar.subi v29 c1_i32_398
  let c4_i32_399 : BitVec 32 := 4#32
  let c0_i32_400 : BitVec 32 := 0#32
  let v658 : BitVec 1 := Scalar.cmpi .eq c4_i32_399 c0_i32_400
  let c1_i32_401 : BitVec 32 := 1#32
  let v659 : BitVec 32 := Scalar.select v658 c1_i32_401 c4_i32_399
  let v660 : BitVec 32 := Scalar.remsi v657 v659
  let c0_i32_403 : BitVec 32 := 0#32
  let v662 : BitVec 1 := Scalar.cmpi .slt v660 c0_i32_403
  let c0_i32_404 : BitVec 32 := 0#32
  let v663 : BitVec 1 := Scalar.cmpi .slt v659 c0_i32_404
  let v664 : BitVec 1 := Scalar.xori v662 v663
  let c0_i32_402 : BitVec 32 := 0#32
  let v661 : BitVec 1 := Scalar.cmpi .ne v660 c0_i32_402
  let v665 : BitVec 1 := Scalar.andi v664 v661
  let v666 : BitVec 32 := Scalar.addi v660 v659
  let v667 : BitVec 32 := Scalar.select v665 v666 v660
  let v681 : Index := Scalar.indexCast v667
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v641 : BitVec 32 := Scalar.addi v19 c1_i32_388
  let c4_i32_389 : BitVec 32 := 4#32
  let c0_i32_390 : BitVec 32 := 0#32
  let v642 : BitVec 1 := Scalar.cmpi .eq c4_i32_389 c0_i32_390
  let c1_i32_391 : BitVec 32 := 1#32
  let v643 : BitVec 32 := Scalar.select v642 c1_i32_391 c4_i32_389
  let v644 : BitVec 32 := Scalar.remsi v641 v643
  let c0_i32_393 : BitVec 32 := 0#32
  let v646 : BitVec 1 := Scalar.cmpi .slt v644 c0_i32_393
  let c0_i32_394 : BitVec 32 := 0#32
  let v647 : BitVec 1 := Scalar.cmpi .slt v643 c0_i32_394
  let v648 : BitVec 1 := Scalar.xori v646 v647
  let c0_i32_392 : BitVec 32 := 0#32
  let v645 : BitVec 1 := Scalar.cmpi .ne v644 c0_i32_392
  let v649 : BitVec 1 := Scalar.andi v648 v645
  let v650 : BitVec 32 := Scalar.addi v644 v643
  let v651 : BitVec 32 := Scalar.select v649 v650 v644
  let c48_i32_413 : BitVec 32 := 48#32
  let v680 : BitVec 32 := Scalar.muli v651 c48_i32_413
  let v682 : Index := Scalar.indexCast v680
  let c0_414 : Index := 0#32
  ![v681.toNat, v682.toNat, 0]
def k0_off8 (d0 : Dev nD) (c1_i32_388 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v641 : BitVec 32 := Scalar.addi v19 c1_i32_388
  let c4_i32_389 : BitVec 32 := 4#32
  let c0_i32_390 : BitVec 32 := 0#32
  let v642 : BitVec 1 := Scalar.cmpi .eq c4_i32_389 c0_i32_390
  let c1_i32_391 : BitVec 32 := 1#32
  let v643 : BitVec 32 := Scalar.select v642 c1_i32_391 c4_i32_389
  let v644 : BitVec 32 := Scalar.remsi v641 v643
  let c0_i32_393 : BitVec 32 := 0#32
  let v646 : BitVec 1 := Scalar.cmpi .slt v644 c0_i32_393
  let c0_i32_394 : BitVec 32 := 0#32
  let v647 : BitVec 1 := Scalar.cmpi .slt v643 c0_i32_394
  let v648 : BitVec 1 := Scalar.xori v646 v647
  let c0_i32_392 : BitVec 32 := 0#32
  let v645 : BitVec 1 := Scalar.cmpi .ne v644 c0_i32_392
  let v649 : BitVec 1 := Scalar.andi v648 v645
  let v650 : BitVec 32 := Scalar.addi v644 v643
  let v651 : BitVec 32 := Scalar.select v649 v650 v644
  let c48_i32_449 : BitVec 32 := 48#32
  let v744 : BitVec 32 := Scalar.muli v651 c48_i32_449
  let v745 : Index := Scalar.indexCast v744
  let c0_450 : Index := 0#32
  ![v745.toNat, 0]
def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_462 : BitVec 32 := 0#32
  let c0_i32_463 : BitVec 32 := 0#32
  ![v19.toNat, 0, 0]
def k0_off11 (d0 : Dev nD) (c1_i32_388 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v641 : BitVec 32 := Scalar.addi v19 c1_i32_388
  let c4_i32_389 : BitVec 32 := 4#32
  let c0_i32_390 : BitVec 32 := 0#32
  let v642 : BitVec 1 := Scalar.cmpi .eq c4_i32_389 c0_i32_390
  let c1_i32_391 : BitVec 32 := 1#32
  let v643 : BitVec 32 := Scalar.select v642 c1_i32_391 c4_i32_389
  let v644 : BitVec 32 := Scalar.remsi v641 v643
  let c0_i32_393 : BitVec 32 := 0#32
  let v646 : BitVec 1 := Scalar.cmpi .slt v644 c0_i32_393
  let c0_i32_394 : BitVec 32 := 0#32
  let v647 : BitVec 1 := Scalar.cmpi .slt v643 c0_i32_394
  let v648 : BitVec 1 := Scalar.xori v646 v647
  let c0_i32_392 : BitVec 32 := 0#32
  let v645 : BitVec 1 := Scalar.cmpi .ne v644 c0_i32_392
  let v649 : BitVec 1 := Scalar.andi v648 v645
  let v650 : BitVec 32 := Scalar.addi v644 v643
  let v651 : BitVec 32 := Scalar.select v649 v650 v644
  let c48_i32_451 : BitVec 32 := 48#32
  let v749 : BitVec 32 := Scalar.muli v651 c48_i32_451
  let c0_i32_464 : BitVec 32 := 0#32
  ![v749.toNat, 0]
def k0_dev19 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_452 : BitVec 32 := 1#32
  let v750 : BitVec 32 := Scalar.addi v19 c1_i32_452
  let c4_i32_453 : BitVec 32 := 4#32
  let c0_i32_454 : BitVec 32 := 0#32
  let v751 : BitVec 1 := Scalar.cmpi .eq c4_i32_453 c0_i32_454
  let c1_i32_455 : BitVec 32 := 1#32
  let v752 : BitVec 32 := Scalar.select v751 c1_i32_455 c4_i32_453
  let v753 : BitVec 32 := Scalar.remsi v750 v752
  let c0_i32_457 : BitVec 32 := 0#32
  let v755 : BitVec 1 := Scalar.cmpi .slt v753 c0_i32_457
  let c0_i32_458 : BitVec 32 := 0#32
  let v756 : BitVec 1 := Scalar.cmpi .slt v752 c0_i32_458
  let v757 : BitVec 1 := Scalar.xori v755 v756
  let c0_i32_456 : BitVec 32 := 0#32
  let v754 : BitVec 1 := Scalar.cmpi .ne v753 c0_i32_456
  let v758 : BitVec 1 := Scalar.andi v757 v754
  let v759 : BitVec 32 := Scalar.addi v753 v752
  let v760 : BitVec 32 := Scalar.select v758 v759 v753
  let c4_i32_459 : BitVec 32 := 4#32
  let v761 : BitVec 32 := Scalar.muli v760 c4_i32_459
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v762 : BitVec 32 := Scalar.addi v761 v29
  let c1_i32_460 : BitVec 32 := 1#32
  let v763 : BitVec 32 := Scalar.muli v762 c1_i32_460
  let v764 : BitVec 32 := Scalar.addi c0_i32_461 v763
  v764.toNat
def k0_dev20 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_529 : BitVec 32 := 2#32
  let v881 : BitVec 32 := Scalar.addi v19 c2_i32_529
  let c4_i32_530 : BitVec 32 := 4#32
  let c0_i32_531 : BitVec 32 := 0#32
  let v882 : BitVec 1 := Scalar.cmpi .eq c4_i32_530 c0_i32_531
  let c1_i32_532 : BitVec 32 := 1#32
  let v883 : BitVec 32 := Scalar.select v882 c1_i32_532 c4_i32_530
  let v884 : BitVec 32 := Scalar.remsi v881 v883
  let c0_i32_534 : BitVec 32 := 0#32
  let v886 : BitVec 1 := Scalar.cmpi .slt v884 c0_i32_534
  let c0_i32_535 : BitVec 32 := 0#32
  let v887 : BitVec 1 := Scalar.cmpi .slt v883 c0_i32_535
  let v888 : BitVec 1 := Scalar.xori v886 v887
  let c0_i32_533 : BitVec 32 := 0#32
  let v885 : BitVec 1 := Scalar.cmpi .ne v884 c0_i32_533
  let v889 : BitVec 1 := Scalar.andi v888 v885
  let v890 : BitVec 32 := Scalar.addi v884 v883
  let v891 : BitVec 32 := Scalar.select v889 v890 v884
  let c4_i32_536 : BitVec 32 := 4#32
  let v892 : BitVec 32 := Scalar.muli v891 c4_i32_536
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v893 : BitVec 32 := Scalar.addi v892 v29
  let c1_i32_537 : BitVec 32 := 1#32
  let v894 : BitVec 32 := Scalar.muli v893 c1_i32_537
  let v895 : BitVec 32 := Scalar.addi c0_i32_538 v894
  v895.toNat
def k0_dev21 (d0 : Dev nD) : Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_606 : BitVec 32 := 3#32
  let v1012 : BitVec 32 := Scalar.addi v19 c3_i32_606
  let c4_i32_607 : BitVec 32 := 4#32
  let c0_i32_608 : BitVec 32 := 0#32
  let v1013 : BitVec 1 := Scalar.cmpi .eq c4_i32_607 c0_i32_608
  let c1_i32_609 : BitVec 32 := 1#32
  let v1014 : BitVec 32 := Scalar.select v1013 c1_i32_609 c4_i32_607
  let v1015 : BitVec 32 := Scalar.remsi v1012 v1014
  let c0_i32_611 : BitVec 32 := 0#32
  let v1017 : BitVec 1 := Scalar.cmpi .slt v1015 c0_i32_611
  let c0_i32_612 : BitVec 32 := 0#32
  let v1018 : BitVec 1 := Scalar.cmpi .slt v1014 c0_i32_612
  let v1019 : BitVec 1 := Scalar.xori v1017 v1018
  let c0_i32_610 : BitVec 32 := 0#32
  let v1016 : BitVec 1 := Scalar.cmpi .ne v1015 c0_i32_610
  let v1020 : BitVec 1 := Scalar.andi v1019 v1016
  let v1021 : BitVec 32 := Scalar.addi v1015 v1014
  let v1022 : BitVec 32 := Scalar.select v1020 v1021 v1015
  let c4_i32_613 : BitVec 32 := 4#32
  let v1023 : BitVec 32 := Scalar.muli v1022 c4_i32_613
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1024 : BitVec 32 := Scalar.addi v1023 v29
  let c1_i32_614 : BitVec 32 := 1#32
  let v1025 : BitVec 32 := Scalar.muli v1024 c1_i32_614
  let v1026 : BitVec 32 := Scalar.addi c0_i32_615 v1025
  v1026.toNat
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c48_i32_682 : BitVec 32 := 48#32
  let v1142 : BitVec 32 := Scalar.muli v19 c48_i32_682
  let v1143 : Index := Scalar.indexCast v1142
  let c0_683 : Index := 0#32
  ![v1143.toNat, 0]
def k0_off13 (d0 : Dev nD) (c1_i32_684 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1145 : BitVec 32 := Scalar.subi v19 c1_i32_684
  let c4_i32_685 : BitVec 32 := 4#32
  let c0_i32_686 : BitVec 32 := 0#32
  let v1146 : BitVec 1 := Scalar.cmpi .eq c4_i32_685 c0_i32_686
  let c1_i32_687 : BitVec 32 := 1#32
  let v1147 : BitVec 32 := Scalar.select v1146 c1_i32_687 c4_i32_685
  let v1148 : BitVec 32 := Scalar.remsi v1145 v1147
  let c0_i32_689 : BitVec 32 := 0#32
  let v1150 : BitVec 1 := Scalar.cmpi .slt v1148 c0_i32_689
  let c0_i32_690 : BitVec 32 := 0#32
  let v1151 : BitVec 1 := Scalar.cmpi .slt v1147 c0_i32_690
  let v1152 : BitVec 1 := Scalar.xori v1150 v1151
  let c0_i32_688 : BitVec 32 := 0#32
  let v1149 : BitVec 1 := Scalar.cmpi .ne v1148 c0_i32_688
  let v1153 : BitVec 1 := Scalar.andi v1152 v1149
  let v1154 : BitVec 32 := Scalar.addi v1148 v1147
  let v1155 : BitVec 32 := Scalar.select v1153 v1154 v1148
  ![v1155.toNat]
def k0_off14 (d0 : Dev nD) (c1_i32_684 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1145 : BitVec 32 := Scalar.subi v19 c1_i32_684
  let c4_i32_685 : BitVec 32 := 4#32
  let c0_i32_686 : BitVec 32 := 0#32
  let v1146 : BitVec 1 := Scalar.cmpi .eq c4_i32_685 c0_i32_686
  let c1_i32_687 : BitVec 32 := 1#32
  let v1147 : BitVec 32 := Scalar.select v1146 c1_i32_687 c4_i32_685
  let v1148 : BitVec 32 := Scalar.remsi v1145 v1147
  let c0_i32_689 : BitVec 32 := 0#32
  let v1150 : BitVec 1 := Scalar.cmpi .slt v1148 c0_i32_689
  let c0_i32_690 : BitVec 32 := 0#32
  let v1151 : BitVec 1 := Scalar.cmpi .slt v1147 c0_i32_690
  let v1152 : BitVec 1 := Scalar.xori v1150 v1151
  let c0_i32_688 : BitVec 32 := 0#32
  let v1149 : BitVec 1 := Scalar.cmpi .ne v1148 c0_i32_688
  let v1153 : BitVec 1 := Scalar.andi v1152 v1149
  let v1154 : BitVec 32 := Scalar.addi v1148 v1147
  let v1155 : BitVec 32 := Scalar.select v1153 v1154 v1148
  let c0_i32_694 : BitVec 32 := 0#32
  let c0_i32_695 : BitVec 32 := 0#32
  ![v1155.toNat, 0, 0]
def k0_off15 (d0 : Dev nD) (c1_i32_684 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1145 : BitVec 32 := Scalar.subi v19 c1_i32_684
  let c4_i32_685 : BitVec 32 := 4#32
  let c0_i32_686 : BitVec 32 := 0#32
  let v1146 : BitVec 1 := Scalar.cmpi .eq c4_i32_685 c0_i32_686
  let c1_i32_687 : BitVec 32 := 1#32
  let v1147 : BitVec 32 := Scalar.select v1146 c1_i32_687 c4_i32_685
  let v1148 : BitVec 32 := Scalar.remsi v1145 v1147
  let c0_i32_689 : BitVec 32 := 0#32
  let v1150 : BitVec 1 := Scalar.cmpi .slt v1148 c0_i32_689
  let c0_i32_690 : BitVec 32 := 0#32
  let v1151 : BitVec 1 := Scalar.cmpi .slt v1147 c0_i32_690
  let v1152 : BitVec 1 := Scalar.xori v1150 v1151
  let c0_i32_688 : BitVec 32 := 0#32
  let v1149 : BitVec 1 := Scalar.cmpi .ne v1148 c0_i32_688
  let v1153 : BitVec 1 := Scalar.andi v1152 v1149
  let v1154 : BitVec 32 := Scalar.addi v1148 v1147
  let v1155 : BitVec 32 := Scalar.select v1153 v1154 v1148
  let v1164 : Index := Scalar.indexCast v1155
  let c0_698 : Index := 0#32
  let c0_699 : Index := 0#32
  ![v1164.toNat, 0, 0]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_732 : BitVec 32 := 4#32
  let v1214 : BitVec 32 := Scalar.muli v29 c4_i32_732
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1215 : BitVec 32 := Scalar.addi v1214 v19
  let c48_i32_733 : BitVec 32 := 48#32
  let v1216 : BitVec 32 := Scalar.muli v1215 c48_i32_733
  let v1217 : Index := Scalar.indexCast v1216
  let c0_734 : Index := 0#32
  ![v1217.toNat, 0]
def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_732 : BitVec 32 := 4#32
  let v1214 : BitVec 32 := Scalar.muli v29 c4_i32_732
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1215 : BitVec 32 := Scalar.addi v1214 v19
  ![v1215.toNat]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_732 : BitVec 32 := 4#32
  let v1214 : BitVec 32 := Scalar.muli v29 c4_i32_732
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1215 : BitVec 32 := Scalar.addi v1214 v19
  let c48_i32_736 : BitVec 32 := 48#32
  let v1220 : BitVec 32 := Scalar.muli v1215 c48_i32_736
  let c0_i32_747 : BitVec 32 := 0#32
  ![v1220.toNat, 0]
def k0_dev22 (d0 : Dev nD) : Nat :=
  let c0_i32_746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_737 : BitVec 32 := 1#32
  let v1221 : BitVec 32 := Scalar.addi v19 c1_i32_737
  let c4_i32_738 : BitVec 32 := 4#32
  let c0_i32_739 : BitVec 32 := 0#32
  let v1222 : BitVec 1 := Scalar.cmpi .eq c4_i32_738 c0_i32_739
  let c1_i32_740 : BitVec 32 := 1#32
  let v1223 : BitVec 32 := Scalar.select v1222 c1_i32_740 c4_i32_738
  let v1224 : BitVec 32 := Scalar.remsi v1221 v1223
  let c0_i32_742 : BitVec 32 := 0#32
  let v1226 : BitVec 1 := Scalar.cmpi .slt v1224 c0_i32_742
  let c0_i32_743 : BitVec 32 := 0#32
  let v1227 : BitVec 1 := Scalar.cmpi .slt v1223 c0_i32_743
  let v1228 : BitVec 1 := Scalar.xori v1226 v1227
  let c0_i32_741 : BitVec 32 := 0#32
  let v1225 : BitVec 1 := Scalar.cmpi .ne v1224 c0_i32_741
  let v1229 : BitVec 1 := Scalar.andi v1228 v1225
  let v1230 : BitVec 32 := Scalar.addi v1224 v1223
  let v1231 : BitVec 32 := Scalar.select v1229 v1230 v1224
  let c4_i32_744 : BitVec 32 := 4#32
  let v1232 : BitVec 32 := Scalar.muli v1231 c4_i32_744
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1233 : BitVec 32 := Scalar.addi v1232 v29
  let c1_i32_745 : BitVec 32 := 1#32
  let v1234 : BitVec 32 := Scalar.muli v1233 c1_i32_745
  let v1235 : BitVec 32 := Scalar.addi c0_i32_746 v1234
  v1235.toNat
def k0_dev23 (d0 : Dev nD) : Nat :=
  let c0_i32_761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_751 : BitVec 32 := 2#32
  let v1244 : BitVec 32 := Scalar.addi v19 c2_i32_751
  let c4_i32_752 : BitVec 32 := 4#32
  let c0_i32_753 : BitVec 32 := 0#32
  let v1245 : BitVec 1 := Scalar.cmpi .eq c4_i32_752 c0_i32_753
  let c1_i32_754 : BitVec 32 := 1#32
  let v1246 : BitVec 32 := Scalar.select v1245 c1_i32_754 c4_i32_752
  let v1247 : BitVec 32 := Scalar.remsi v1244 v1246
  let c0_i32_756 : BitVec 32 := 0#32
  let v1249 : BitVec 1 := Scalar.cmpi .slt v1247 c0_i32_756
  let c0_i32_757 : BitVec 32 := 0#32
  let v1250 : BitVec 1 := Scalar.cmpi .slt v1246 c0_i32_757
  let v1251 : BitVec 1 := Scalar.xori v1249 v1250
  let c0_i32_755 : BitVec 32 := 0#32
  let v1248 : BitVec 1 := Scalar.cmpi .ne v1247 c0_i32_755
  let v1252 : BitVec 1 := Scalar.andi v1251 v1248
  let v1253 : BitVec 32 := Scalar.addi v1247 v1246
  let v1254 : BitVec 32 := Scalar.select v1252 v1253 v1247
  let c4_i32_758 : BitVec 32 := 4#32
  let v1255 : BitVec 32 := Scalar.muli v1254 c4_i32_758
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1256 : BitVec 32 := Scalar.addi v1255 v29
  let c1_i32_760 : BitVec 32 := 1#32
  let v1257 : BitVec 32 := Scalar.muli v1256 c1_i32_760
  let v1258 : BitVec 32 := Scalar.addi c0_i32_761 v1257
  v1258.toNat
def k0_dev24 (d0 : Dev nD) : Nat :=
  let c0_i32_775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_766 : BitVec 32 := 3#32
  let v1267 : BitVec 32 := Scalar.addi v19 c3_i32_766
  let c4_i32_767 : BitVec 32 := 4#32
  let c0_i32_768 : BitVec 32 := 0#32
  let v1268 : BitVec 1 := Scalar.cmpi .eq c4_i32_767 c0_i32_768
  let c1_i32_769 : BitVec 32 := 1#32
  let v1269 : BitVec 32 := Scalar.select v1268 c1_i32_769 c4_i32_767
  let v1270 : BitVec 32 := Scalar.remsi v1267 v1269
  let c0_i32_771 : BitVec 32 := 0#32
  let v1272 : BitVec 1 := Scalar.cmpi .slt v1270 c0_i32_771
  let c0_i32_772 : BitVec 32 := 0#32
  let v1273 : BitVec 1 := Scalar.cmpi .slt v1269 c0_i32_772
  let v1274 : BitVec 1 := Scalar.xori v1272 v1273
  let c0_i32_770 : BitVec 32 := 0#32
  let v1271 : BitVec 1 := Scalar.cmpi .ne v1270 c0_i32_770
  let v1275 : BitVec 1 := Scalar.andi v1274 v1271
  let v1276 : BitVec 32 := Scalar.addi v1270 v1269
  let v1277 : BitVec 32 := Scalar.select v1275 v1276 v1270
  let c4_i32_773 : BitVec 32 := 4#32
  let v1278 : BitVec 32 := Scalar.muli v1277 c4_i32_773
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1279 : BitVec 32 := Scalar.addi v1278 v29
  let c1_i32_774 : BitVec 32 := 1#32
  let v1280 : BitVec 32 := Scalar.muli v1279 c1_i32_774
  let v1281 : BitVec 32 := Scalar.addi c0_i32_775 v1280
  v1281.toNat
def k0_dev25 (d0 : Dev nD) : Nat :=
  let c0_i32_789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_780 : BitVec 32 := 4#32
  let v1290 : BitVec 32 := Scalar.muli v19 c4_i32_780
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_781 : BitVec 32 := 1#32
  let v1291 : BitVec 32 := Scalar.addi v29 c1_i32_781
  let c4_i32_782 : BitVec 32 := 4#32
  let c0_i32_783 : BitVec 32 := 0#32
  let v1292 : BitVec 1 := Scalar.cmpi .eq c4_i32_782 c0_i32_783
  let c1_i32_784 : BitVec 32 := 1#32
  let v1293 : BitVec 32 := Scalar.select v1292 c1_i32_784 c4_i32_782
  let v1294 : BitVec 32 := Scalar.remsi v1291 v1293
  let c0_i32_786 : BitVec 32 := 0#32
  let v1296 : BitVec 1 := Scalar.cmpi .slt v1294 c0_i32_786
  let c0_i32_787 : BitVec 32 := 0#32
  let v1297 : BitVec 1 := Scalar.cmpi .slt v1293 c0_i32_787
  let v1298 : BitVec 1 := Scalar.xori v1296 v1297
  let c0_i32_785 : BitVec 32 := 0#32
  let v1295 : BitVec 1 := Scalar.cmpi .ne v1294 c0_i32_785
  let v1299 : BitVec 1 := Scalar.andi v1298 v1295
  let v1300 : BitVec 32 := Scalar.addi v1294 v1293
  let v1301 : BitVec 32 := Scalar.select v1299 v1300 v1294
  let v1302 : BitVec 32 := Scalar.addi v1290 v1301
  let c1_i32_788 : BitVec 32 := 1#32
  let v1303 : BitVec 32 := Scalar.muli v1302 c1_i32_788
  let v1304 : BitVec 32 := Scalar.addi c0_i32_789 v1303
  v1304.toNat
def k0_dev26 (d0 : Dev nD) : Nat :=
  let c0_i32_803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_794 : BitVec 32 := 4#32
  let v1313 : BitVec 32 := Scalar.muli v19 c4_i32_794
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_795 : BitVec 32 := 2#32
  let v1314 : BitVec 32 := Scalar.addi v29 c2_i32_795
  let c4_i32_796 : BitVec 32 := 4#32
  let c0_i32_797 : BitVec 32 := 0#32
  let v1315 : BitVec 1 := Scalar.cmpi .eq c4_i32_796 c0_i32_797
  let c1_i32_798 : BitVec 32 := 1#32
  let v1316 : BitVec 32 := Scalar.select v1315 c1_i32_798 c4_i32_796
  let v1317 : BitVec 32 := Scalar.remsi v1314 v1316
  let c0_i32_800 : BitVec 32 := 0#32
  let v1319 : BitVec 1 := Scalar.cmpi .slt v1317 c0_i32_800
  let c0_i32_801 : BitVec 32 := 0#32
  let v1320 : BitVec 1 := Scalar.cmpi .slt v1316 c0_i32_801
  let v1321 : BitVec 1 := Scalar.xori v1319 v1320
  let c0_i32_799 : BitVec 32 := 0#32
  let v1318 : BitVec 1 := Scalar.cmpi .ne v1317 c0_i32_799
  let v1322 : BitVec 1 := Scalar.andi v1321 v1318
  let v1323 : BitVec 32 := Scalar.addi v1317 v1316
  let v1324 : BitVec 32 := Scalar.select v1322 v1323 v1317
  let v1325 : BitVec 32 := Scalar.addi v1313 v1324
  let c1_i32_802 : BitVec 32 := 1#32
  let v1326 : BitVec 32 := Scalar.muli v1325 c1_i32_802
  let v1327 : BitVec 32 := Scalar.addi c0_i32_803 v1326
  v1327.toNat
def k0_dev27 (d0 : Dev nD) : Nat :=
  let c0_i32_817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_808 : BitVec 32 := 4#32
  let v1336 : BitVec 32 := Scalar.muli v19 c4_i32_808
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_809 : BitVec 32 := 3#32
  let v1337 : BitVec 32 := Scalar.addi v29 c3_i32_809
  let c4_i32_810 : BitVec 32 := 4#32
  let c0_i32_811 : BitVec 32 := 0#32
  let v1338 : BitVec 1 := Scalar.cmpi .eq c4_i32_810 c0_i32_811
  let c1_i32_812 : BitVec 32 := 1#32
  let v1339 : BitVec 32 := Scalar.select v1338 c1_i32_812 c4_i32_810
  let v1340 : BitVec 32 := Scalar.remsi v1337 v1339
  let c0_i32_814 : BitVec 32 := 0#32
  let v1342 : BitVec 1 := Scalar.cmpi .slt v1340 c0_i32_814
  let c0_i32_815 : BitVec 32 := 0#32
  let v1343 : BitVec 1 := Scalar.cmpi .slt v1339 c0_i32_815
  let v1344 : BitVec 1 := Scalar.xori v1342 v1343
  let c0_i32_813 : BitVec 32 := 0#32
  let v1341 : BitVec 1 := Scalar.cmpi .ne v1340 c0_i32_813
  let v1345 : BitVec 1 := Scalar.andi v1344 v1341
  let v1346 : BitVec 32 := Scalar.addi v1340 v1339
  let v1347 : BitVec 32 := Scalar.select v1345 v1346 v1340
  let v1348 : BitVec 32 := Scalar.addi v1336 v1347
  let c1_i32_816 : BitVec 32 := 1#32
  let v1349 : BitVec 32 := Scalar.muli v1348 c1_i32_816
  let v1350 : BitVec 32 := Scalar.addi c0_i32_817 v1349
  v1350.toNat
def k0_off19 (d0 : Dev nD) (c1_i32_820 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_827 : BitVec 32 := 4#32
  let v1368 : BitVec 32 := Scalar.muli v29 c4_i32_827
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1357 : BitVec 32 := Scalar.subi v19 c1_i32_820
  let c4_i32_821 : BitVec 32 := 4#32
  let c0_i32_822 : BitVec 32 := 0#32
  let v1358 : BitVec 1 := Scalar.cmpi .eq c4_i32_821 c0_i32_822
  let c1_i32_823 : BitVec 32 := 1#32
  let v1359 : BitVec 32 := Scalar.select v1358 c1_i32_823 c4_i32_821
  let v1360 : BitVec 32 := Scalar.remsi v1357 v1359
  let c0_i32_825 : BitVec 32 := 0#32
  let v1362 : BitVec 1 := Scalar.cmpi .slt v1360 c0_i32_825
  let c0_i32_826 : BitVec 32 := 0#32
  let v1363 : BitVec 1 := Scalar.cmpi .slt v1359 c0_i32_826
  let v1364 : BitVec 1 := Scalar.xori v1362 v1363
  let c0_i32_824 : BitVec 32 := 0#32
  let v1361 : BitVec 1 := Scalar.cmpi .ne v1360 c0_i32_824
  let v1365 : BitVec 1 := Scalar.andi v1364 v1361
  let v1366 : BitVec 32 := Scalar.addi v1360 v1359
  let v1367 : BitVec 32 := Scalar.select v1365 v1366 v1360
  let v1369 : BitVec 32 := Scalar.addi v1368 v1367
  ![v1369.toNat]
def k0_off20 (d0 : Dev nD) (c1_i32_820 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_827 : BitVec 32 := 4#32
  let v1368 : BitVec 32 := Scalar.muli v29 c4_i32_827
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1357 : BitVec 32 := Scalar.subi v19 c1_i32_820
  let c4_i32_821 : BitVec 32 := 4#32
  let c0_i32_822 : BitVec 32 := 0#32
  let v1358 : BitVec 1 := Scalar.cmpi .eq c4_i32_821 c0_i32_822
  let c1_i32_823 : BitVec 32 := 1#32
  let v1359 : BitVec 32 := Scalar.select v1358 c1_i32_823 c4_i32_821
  let v1360 : BitVec 32 := Scalar.remsi v1357 v1359
  let c0_i32_825 : BitVec 32 := 0#32
  let v1362 : BitVec 1 := Scalar.cmpi .slt v1360 c0_i32_825
  let c0_i32_826 : BitVec 32 := 0#32
  let v1363 : BitVec 1 := Scalar.cmpi .slt v1359 c0_i32_826
  let v1364 : BitVec 1 := Scalar.xori v1362 v1363
  let c0_i32_824 : BitVec 32 := 0#32
  let v1361 : BitVec 1 := Scalar.cmpi .ne v1360 c0_i32_824
  let v1365 : BitVec 1 := Scalar.andi v1364 v1361
  let v1366 : BitVec 32 := Scalar.addi v1360 v1359
  let v1367 : BitVec 32 := Scalar.select v1365 v1366 v1360
  let v1369 : BitVec 32 := Scalar.addi v1368 v1367
  let c48_i32_829 : BitVec 32 := 48#32
  let v1371 : BitVec 32 := Scalar.muli v1369 c48_i32_829
  let c0_i32_833 : BitVec 32 := 0#32
  ![v1371.toNat, 0]
def k0_dev28 (d0 : Dev nD) : Nat :=
  let c0_i32_846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_837 : BitVec 32 := 4#32
  let v1380 : BitVec 32 := Scalar.muli v19 c4_i32_837
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_838 : BitVec 32 := 1#32
  let v1381 : BitVec 32 := Scalar.addi v29 c1_i32_838
  let c4_i32_839 : BitVec 32 := 4#32
  let c0_i32_840 : BitVec 32 := 0#32
  let v1382 : BitVec 1 := Scalar.cmpi .eq c4_i32_839 c0_i32_840
  let c1_i32_841 : BitVec 32 := 1#32
  let v1383 : BitVec 32 := Scalar.select v1382 c1_i32_841 c4_i32_839
  let v1384 : BitVec 32 := Scalar.remsi v1381 v1383
  let c0_i32_843 : BitVec 32 := 0#32
  let v1386 : BitVec 1 := Scalar.cmpi .slt v1384 c0_i32_843
  let c0_i32_844 : BitVec 32 := 0#32
  let v1387 : BitVec 1 := Scalar.cmpi .slt v1383 c0_i32_844
  let v1388 : BitVec 1 := Scalar.xori v1386 v1387
  let c0_i32_842 : BitVec 32 := 0#32
  let v1385 : BitVec 1 := Scalar.cmpi .ne v1384 c0_i32_842
  let v1389 : BitVec 1 := Scalar.andi v1388 v1385
  let v1390 : BitVec 32 := Scalar.addi v1384 v1383
  let v1391 : BitVec 32 := Scalar.select v1389 v1390 v1384
  let v1392 : BitVec 32 := Scalar.addi v1380 v1391
  let c1_i32_845 : BitVec 32 := 1#32
  let v1393 : BitVec 32 := Scalar.muli v1392 c1_i32_845
  let v1394 : BitVec 32 := Scalar.addi c0_i32_846 v1393
  v1394.toNat
def k0_dev29 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_851 : BitVec 32 := 4#32
  let v1403 : BitVec 32 := Scalar.muli v19 c4_i32_851
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_852 : BitVec 32 := 2#32
  let v1404 : BitVec 32 := Scalar.addi v29 c2_i32_852
  let c4_i32_853 : BitVec 32 := 4#32
  let c0_i32_854 : BitVec 32 := 0#32
  let v1405 : BitVec 1 := Scalar.cmpi .eq c4_i32_853 c0_i32_854
  let c1_i32_855 : BitVec 32 := 1#32
  let v1406 : BitVec 32 := Scalar.select v1405 c1_i32_855 c4_i32_853
  let v1407 : BitVec 32 := Scalar.remsi v1404 v1406
  let c0_i32_857 : BitVec 32 := 0#32
  let v1409 : BitVec 1 := Scalar.cmpi .slt v1407 c0_i32_857
  let c0_i32_858 : BitVec 32 := 0#32
  let v1410 : BitVec 1 := Scalar.cmpi .slt v1406 c0_i32_858
  let v1411 : BitVec 1 := Scalar.xori v1409 v1410
  let c0_i32_856 : BitVec 32 := 0#32
  let v1408 : BitVec 1 := Scalar.cmpi .ne v1407 c0_i32_856
  let v1412 : BitVec 1 := Scalar.andi v1411 v1408
  let v1413 : BitVec 32 := Scalar.addi v1407 v1406
  let v1414 : BitVec 32 := Scalar.select v1412 v1413 v1407
  let v1415 : BitVec 32 := Scalar.addi v1403 v1414
  let c1_i32_859 : BitVec 32 := 1#32
  let v1416 : BitVec 32 := Scalar.muli v1415 c1_i32_859
  let v1417 : BitVec 32 := Scalar.addi c0_i32_860 v1416
  v1417.toNat
def k0_dev30 (d0 : Dev nD) : Nat :=
  let c0_i32_874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_865 : BitVec 32 := 4#32
  let v1426 : BitVec 32 := Scalar.muli v19 c4_i32_865
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_866 : BitVec 32 := 3#32
  let v1427 : BitVec 32 := Scalar.addi v29 c3_i32_866
  let c4_i32_867 : BitVec 32 := 4#32
  let c0_i32_868 : BitVec 32 := 0#32
  let v1428 : BitVec 1 := Scalar.cmpi .eq c4_i32_867 c0_i32_868
  let c1_i32_869 : BitVec 32 := 1#32
  let v1429 : BitVec 32 := Scalar.select v1428 c1_i32_869 c4_i32_867
  let v1430 : BitVec 32 := Scalar.remsi v1427 v1429
  let c0_i32_871 : BitVec 32 := 0#32
  let v1432 : BitVec 1 := Scalar.cmpi .slt v1430 c0_i32_871
  let c0_i32_872 : BitVec 32 := 0#32
  let v1433 : BitVec 1 := Scalar.cmpi .slt v1429 c0_i32_872
  let v1434 : BitVec 1 := Scalar.xori v1432 v1433
  let c0_i32_870 : BitVec 32 := 0#32
  let v1431 : BitVec 1 := Scalar.cmpi .ne v1430 c0_i32_870
  let v1435 : BitVec 1 := Scalar.andi v1434 v1431
  let v1436 : BitVec 32 := Scalar.addi v1430 v1429
  let v1437 : BitVec 32 := Scalar.select v1435 v1436 v1430
  let v1438 : BitVec 32 := Scalar.addi v1426 v1437
  let c1_i32_873 : BitVec 32 := 1#32
  let v1439 : BitVec 32 := Scalar.muli v1438 c1_i32_873
  let v1440 : BitVec 32 := Scalar.addi c0_i32_874 v1439
  v1440.toNat
def k0_dev31 (d0 : Dev nD) : Nat :=
  let c0_i32_903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_894 : BitVec 32 := 4#32
  let v1470 : BitVec 32 := Scalar.muli v19 c4_i32_894
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_895 : BitVec 32 := 1#32
  let v1471 : BitVec 32 := Scalar.addi v29 c1_i32_895
  let c4_i32_896 : BitVec 32 := 4#32
  let c0_i32_897 : BitVec 32 := 0#32
  let v1472 : BitVec 1 := Scalar.cmpi .eq c4_i32_896 c0_i32_897
  let c1_i32_898 : BitVec 32 := 1#32
  let v1473 : BitVec 32 := Scalar.select v1472 c1_i32_898 c4_i32_896
  let v1474 : BitVec 32 := Scalar.remsi v1471 v1473
  let c0_i32_900 : BitVec 32 := 0#32
  let v1476 : BitVec 1 := Scalar.cmpi .slt v1474 c0_i32_900
  let c0_i32_901 : BitVec 32 := 0#32
  let v1477 : BitVec 1 := Scalar.cmpi .slt v1473 c0_i32_901
  let v1478 : BitVec 1 := Scalar.xori v1476 v1477
  let c0_i32_899 : BitVec 32 := 0#32
  let v1475 : BitVec 1 := Scalar.cmpi .ne v1474 c0_i32_899
  let v1479 : BitVec 1 := Scalar.andi v1478 v1475
  let v1480 : BitVec 32 := Scalar.addi v1474 v1473
  let v1481 : BitVec 32 := Scalar.select v1479 v1480 v1474
  let v1482 : BitVec 32 := Scalar.addi v1470 v1481
  let c1_i32_902 : BitVec 32 := 1#32
  let v1483 : BitVec 32 := Scalar.muli v1482 c1_i32_902
  let v1484 : BitVec 32 := Scalar.addi c0_i32_903 v1483
  v1484.toNat
def k0_dev32 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_908 : BitVec 32 := 4#32
  let v1493 : BitVec 32 := Scalar.muli v19 c4_i32_908
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_909 : BitVec 32 := 2#32
  let v1494 : BitVec 32 := Scalar.addi v29 c2_i32_909
  let c4_i32_910 : BitVec 32 := 4#32
  let c0_i32_911 : BitVec 32 := 0#32
  let v1495 : BitVec 1 := Scalar.cmpi .eq c4_i32_910 c0_i32_911
  let c1_i32_912 : BitVec 32 := 1#32
  let v1496 : BitVec 32 := Scalar.select v1495 c1_i32_912 c4_i32_910
  let v1497 : BitVec 32 := Scalar.remsi v1494 v1496
  let c0_i32_914 : BitVec 32 := 0#32
  let v1499 : BitVec 1 := Scalar.cmpi .slt v1497 c0_i32_914
  let c0_i32_915 : BitVec 32 := 0#32
  let v1500 : BitVec 1 := Scalar.cmpi .slt v1496 c0_i32_915
  let v1501 : BitVec 1 := Scalar.xori v1499 v1500
  let c0_i32_913 : BitVec 32 := 0#32
  let v1498 : BitVec 1 := Scalar.cmpi .ne v1497 c0_i32_913
  let v1502 : BitVec 1 := Scalar.andi v1501 v1498
  let v1503 : BitVec 32 := Scalar.addi v1497 v1496
  let v1504 : BitVec 32 := Scalar.select v1502 v1503 v1497
  let v1505 : BitVec 32 := Scalar.addi v1493 v1504
  let c1_i32_916 : BitVec 32 := 1#32
  let v1506 : BitVec 32 := Scalar.muli v1505 c1_i32_916
  let v1507 : BitVec 32 := Scalar.addi c0_i32_917 v1506
  v1507.toNat
def k0_dev33 (d0 : Dev nD) : Nat :=
  let c0_i32_931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_922 : BitVec 32 := 4#32
  let v1516 : BitVec 32 := Scalar.muli v19 c4_i32_922
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_923 : BitVec 32 := 3#32
  let v1517 : BitVec 32 := Scalar.addi v29 c3_i32_923
  let c4_i32_924 : BitVec 32 := 4#32
  let c0_i32_925 : BitVec 32 := 0#32
  let v1518 : BitVec 1 := Scalar.cmpi .eq c4_i32_924 c0_i32_925
  let c1_i32_926 : BitVec 32 := 1#32
  let v1519 : BitVec 32 := Scalar.select v1518 c1_i32_926 c4_i32_924
  let v1520 : BitVec 32 := Scalar.remsi v1517 v1519
  let c0_i32_928 : BitVec 32 := 0#32
  let v1522 : BitVec 1 := Scalar.cmpi .slt v1520 c0_i32_928
  let c0_i32_929 : BitVec 32 := 0#32
  let v1523 : BitVec 1 := Scalar.cmpi .slt v1519 c0_i32_929
  let v1524 : BitVec 1 := Scalar.xori v1522 v1523
  let c0_i32_927 : BitVec 32 := 0#32
  let v1521 : BitVec 1 := Scalar.cmpi .ne v1520 c0_i32_927
  let v1525 : BitVec 1 := Scalar.andi v1524 v1521
  let v1526 : BitVec 32 := Scalar.addi v1520 v1519
  let v1527 : BitVec 32 := Scalar.select v1525 v1526 v1520
  let v1528 : BitVec 32 := Scalar.addi v1516 v1527
  let c1_i32_930 : BitVec 32 := 1#32
  let v1529 : BitVec 32 := Scalar.muli v1528 c1_i32_930
  let v1530 : BitVec 32 := Scalar.addi c0_i32_931 v1529
  v1530.toNat
def k0_dev34 (d0 : Dev nD) : Nat :=
  let c0_i32_960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_951 : BitVec 32 := 4#32
  let v1560 : BitVec 32 := Scalar.muli v19 c4_i32_951
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_952 : BitVec 32 := 1#32
  let v1561 : BitVec 32 := Scalar.addi v29 c1_i32_952
  let c4_i32_953 : BitVec 32 := 4#32
  let c0_i32_954 : BitVec 32 := 0#32
  let v1562 : BitVec 1 := Scalar.cmpi .eq c4_i32_953 c0_i32_954
  let c1_i32_955 : BitVec 32 := 1#32
  let v1563 : BitVec 32 := Scalar.select v1562 c1_i32_955 c4_i32_953
  let v1564 : BitVec 32 := Scalar.remsi v1561 v1563
  let c0_i32_957 : BitVec 32 := 0#32
  let v1566 : BitVec 1 := Scalar.cmpi .slt v1564 c0_i32_957
  let c0_i32_958 : BitVec 32 := 0#32
  let v1567 : BitVec 1 := Scalar.cmpi .slt v1563 c0_i32_958
  let v1568 : BitVec 1 := Scalar.xori v1566 v1567
  let c0_i32_956 : BitVec 32 := 0#32
  let v1565 : BitVec 1 := Scalar.cmpi .ne v1564 c0_i32_956
  let v1569 : BitVec 1 := Scalar.andi v1568 v1565
  let v1570 : BitVec 32 := Scalar.addi v1564 v1563
  let v1571 : BitVec 32 := Scalar.select v1569 v1570 v1564
  let v1572 : BitVec 32 := Scalar.addi v1560 v1571
  let c1_i32_959 : BitVec 32 := 1#32
  let v1573 : BitVec 32 := Scalar.muli v1572 c1_i32_959
  let v1574 : BitVec 32 := Scalar.addi c0_i32_960 v1573
  v1574.toNat
def k0_dev35 (d0 : Dev nD) : Nat :=
  let c0_i32_974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_965 : BitVec 32 := 4#32
  let v1583 : BitVec 32 := Scalar.muli v19 c4_i32_965
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_966 : BitVec 32 := 2#32
  let v1584 : BitVec 32 := Scalar.addi v29 c2_i32_966
  let c4_i32_967 : BitVec 32 := 4#32
  let c0_i32_968 : BitVec 32 := 0#32
  let v1585 : BitVec 1 := Scalar.cmpi .eq c4_i32_967 c0_i32_968
  let c1_i32_969 : BitVec 32 := 1#32
  let v1586 : BitVec 32 := Scalar.select v1585 c1_i32_969 c4_i32_967
  let v1587 : BitVec 32 := Scalar.remsi v1584 v1586
  let c0_i32_971 : BitVec 32 := 0#32
  let v1589 : BitVec 1 := Scalar.cmpi .slt v1587 c0_i32_971
  let c0_i32_972 : BitVec 32 := 0#32
  let v1590 : BitVec 1 := Scalar.cmpi .slt v1586 c0_i32_972
  let v1591 : BitVec 1 := Scalar.xori v1589 v1590
  let c0_i32_970 : BitVec 32 := 0#32
  let v1588 : BitVec 1 := Scalar.cmpi .ne v1587 c0_i32_970
  let v1592 : BitVec 1 := Scalar.andi v1591 v1588
  let v1593 : BitVec 32 := Scalar.addi v1587 v1586
  let v1594 : BitVec 32 := Scalar.select v1592 v1593 v1587
  let v1595 : BitVec 32 := Scalar.addi v1583 v1594
  let c1_i32_973 : BitVec 32 := 1#32
  let v1596 : BitVec 32 := Scalar.muli v1595 c1_i32_973
  let v1597 : BitVec 32 := Scalar.addi c0_i32_974 v1596
  v1597.toNat
def k0_dev36 (d0 : Dev nD) : Nat :=
  let c0_i32_988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_979 : BitVec 32 := 4#32
  let v1606 : BitVec 32 := Scalar.muli v19 c4_i32_979
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_980 : BitVec 32 := 3#32
  let v1607 : BitVec 32 := Scalar.addi v29 c3_i32_980
  let c4_i32_981 : BitVec 32 := 4#32
  let c0_i32_982 : BitVec 32 := 0#32
  let v1608 : BitVec 1 := Scalar.cmpi .eq c4_i32_981 c0_i32_982
  let c1_i32_983 : BitVec 32 := 1#32
  let v1609 : BitVec 32 := Scalar.select v1608 c1_i32_983 c4_i32_981
  let v1610 : BitVec 32 := Scalar.remsi v1607 v1609
  let c0_i32_985 : BitVec 32 := 0#32
  let v1612 : BitVec 1 := Scalar.cmpi .slt v1610 c0_i32_985
  let c0_i32_986 : BitVec 32 := 0#32
  let v1613 : BitVec 1 := Scalar.cmpi .slt v1609 c0_i32_986
  let v1614 : BitVec 1 := Scalar.xori v1612 v1613
  let c0_i32_984 : BitVec 32 := 0#32
  let v1611 : BitVec 1 := Scalar.cmpi .ne v1610 c0_i32_984
  let v1615 : BitVec 1 := Scalar.andi v1614 v1611
  let v1616 : BitVec 32 := Scalar.addi v1610 v1609
  let v1617 : BitVec 32 := Scalar.select v1615 v1616 v1610
  let v1618 : BitVec 32 := Scalar.addi v1606 v1617
  let c1_i32_987 : BitVec 32 := 1#32
  let v1619 : BitVec 32 := Scalar.muli v1618 c1_i32_987
  let v1620 : BitVec 32 := Scalar.addi c0_i32_988 v1619
  v1620.toNat
def k0_off21 (d0 : Dev nD) (c1_i32_991 : BitVec 32) (c0_i32_999 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1627 : BitVec 32 := Scalar.subi v29 c1_i32_991
  let c4_i32_992 : BitVec 32 := 4#32
  let c0_i32_993 : BitVec 32 := 0#32
  let v1628 : BitVec 1 := Scalar.cmpi .eq c4_i32_992 c0_i32_993
  let c1_i32_994 : BitVec 32 := 1#32
  let v1629 : BitVec 32 := Scalar.select v1628 c1_i32_994 c4_i32_992
  let v1630 : BitVec 32 := Scalar.remsi v1627 v1629
  let c0_i32_996 : BitVec 32 := 0#32
  let v1632 : BitVec 1 := Scalar.cmpi .slt v1630 c0_i32_996
  let c0_i32_997 : BitVec 32 := 0#32
  let v1633 : BitVec 1 := Scalar.cmpi .slt v1629 c0_i32_997
  let v1634 : BitVec 1 := Scalar.xori v1632 v1633
  let c0_i32_995 : BitVec 32 := 0#32
  let v1631 : BitVec 1 := Scalar.cmpi .ne v1630 c0_i32_995
  let v1635 : BitVec 1 := Scalar.andi v1634 v1631
  let v1636 : BitVec 32 := Scalar.addi v1630 v1629
  let v1637 : BitVec 32 := Scalar.select v1635 v1636 v1630
  let c4_i32_998 : BitVec 32 := 4#32
  let v1638 : BitVec 32 := Scalar.muli v1637 c4_i32_998
  let v1639 : BitVec 32 := Scalar.addi v1638 c0_i32_999
  ![v1639.toNat]
def k0_off22 (d0 : Dev nD) (c1_i32_991 : BitVec 32) (c0_i32_999 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1627 : BitVec 32 := Scalar.subi v29 c1_i32_991
  let c4_i32_992 : BitVec 32 := 4#32
  let c0_i32_993 : BitVec 32 := 0#32
  let v1628 : BitVec 1 := Scalar.cmpi .eq c4_i32_992 c0_i32_993
  let c1_i32_994 : BitVec 32 := 1#32
  let v1629 : BitVec 32 := Scalar.select v1628 c1_i32_994 c4_i32_992
  let v1630 : BitVec 32 := Scalar.remsi v1627 v1629
  let c0_i32_996 : BitVec 32 := 0#32
  let v1632 : BitVec 1 := Scalar.cmpi .slt v1630 c0_i32_996
  let c0_i32_997 : BitVec 32 := 0#32
  let v1633 : BitVec 1 := Scalar.cmpi .slt v1629 c0_i32_997
  let v1634 : BitVec 1 := Scalar.xori v1632 v1633
  let c0_i32_995 : BitVec 32 := 0#32
  let v1631 : BitVec 1 := Scalar.cmpi .ne v1630 c0_i32_995
  let v1635 : BitVec 1 := Scalar.andi v1634 v1631
  let v1636 : BitVec 32 := Scalar.addi v1630 v1629
  let v1637 : BitVec 32 := Scalar.select v1635 v1636 v1630
  let c4_i32_998 : BitVec 32 := 4#32
  let v1638 : BitVec 32 := Scalar.muli v1637 c4_i32_998
  let v1639 : BitVec 32 := Scalar.addi v1638 c0_i32_999
  let c48_i32_1001 : BitVec 32 := 48#32
  let v1641 : BitVec 32 := Scalar.muli v1639 c48_i32_1001
  let c0_i32_1005 : BitVec 32 := 0#32
  ![v1641.toNat, 0]
abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x6144 : Shape := ⟨2, ![768, 6144]⟩
abbrev S6144x768 : Shape := ⟨2, ![6144, 768]⟩
abbrev S768x768 : Shape := ⟨2, ![768, 768]⟩

abbrev nBuf : Space → Nat
  | .hbm => 3
  | .vmem => 0
  | .smem => 0
  | _ => 0

abbrev bufTy : (tb : Table) → Fin (tcTables nBuf tb) → BufTy
  | .hbm, ⟨0, _⟩ => ⟨S768x6144, .f32⟩
  | .hbm, ⟨1, _⟩ => ⟨S6144x768, .f32⟩
  | .hbm, ⟨2, _⟩ => ⟨S768x768, .f32⟩
  | _, _ => ⟨S768x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Tab.lean ====
/-
# The mesh and the transfers of the kernel, as tables

The sixteen devices form a `4 × 4` grid: device `d` is column position `d % 4` of plane `d / 4`. Every device makes thirty
transfers, numbered `0 … 29` in program order, and receives thirty. This module says, for each transfer, which device it
goes to, which chunk it reads and where it lands, and for each wait which landing place it waits for, and proves by
evaluation over the sixteen devices that the printed program's offsets and device numbers are those of the tables.
-/
module

public import proofs.«01_k».proof.Proof.Gen.KernelIdeal
public import proofs.«01_k».proof.Proof.Gen.KernelIdeal.Skeleton

@[expose] public section

namespace Cert.KernelIdeal.Prf

open Cert.KernelIdeal Cert.KernelIdeal.Gen
open Idealize.ShloMosaic

/-! ## The grid -/

/-- A device's position in its plane, and its plane. -/
def pc (c : Dev nD) : Fin 4 := ⟨c.val % 4, Nat.mod_lt _ (by decide)⟩
def zc (c : Dev nD) : Fin 4 := ⟨c.val / 4, Nat.div_lt_of_lt_mul c.isLt⟩
/-- The device at a position of a plane. -/
def dv (p z : Fin 4) : Dev nD := ⟨4 * z.val + p.val, by have := p.isLt; have := z.isLt; show _ < 16; omega⟩

theorem dv_pc_zc (c : Dev nD) : dv (pc c) (zc c) = c := by revert c; decide
theorem pc_dv (p z : Fin 4) : pc (dv p z) = p := by revert p z; decide
theorem zc_dv (p z : Fin 4) : zc (dv p z) = z := by revert p z; decide

/-! ## Places: where a transfer lands, where it reads -/

/-- A landing place of a device: chunk `zz` of the plane buffer's part `p`; part `z` of the column buffer; chunk `(p, z)` of
    the result. -/
inductive Spot where
  | pb (p zz : Fin 4)
  | zb (z : Fin 4)
  | ou (p z : Fin 4)
  deriving DecidableEq

/-- A chunk a transfer reads: of the local product, of the plane sums, of the result. -/
inductive Srce where
  | ac (p z : Fin 4)
  | pr (z : Fin 4)
  | ou (p z : Fin 4)
  deriving DecidableEq

/-- The offset a transfer's target is at, around the plane or the column. -/
def ofs (j : ℕ) : Fin 4 := ⟨(j % 3 + 1) % 4, Nat.mod_lt _ (by decide)⟩
/-- The chunk offset of the first twelve transfers: one, two, three, none. -/
def zof (j : ℕ) : Fin 4 := ⟨(j / 3 + 1) % 4, Nat.mod_lt _ (by decide)⟩

/-- The device transfer `j` of device `c` goes to. -/
def tgt (c : Dev nD) (j : ℕ) : Dev nD :=
  if j < 12 then dv (pc c + ofs j) (zc c) else if j < 18 then dv (pc c) (zc c + ofs j) else dv (pc c + ofs j) (zc c)

/-- The chunk transfer `j` of device `c` reads. -/
def src (c : Dev nD) (j : ℕ) : Srce :=
  if j < 12 then .ac (pc c + ofs j) (zc c + zof j) else if j < 15 then .pr (zc c + ofs j)
  else if j < 21 then .ou (pc c) (zc c) else .ou (pc c) (zc c - zof (j - 21))

/-- The place, on its target, transfer `j` of device `c` lands at. -/
def dst (c : Dev nD) (j : ℕ) : Spot :=
  if j < 12 then .pb (pc c) (zc c + zof j) else if j < 15 then .zb (zc c)
  else if j < 21 then .ou (pc c) (zc c) else .ou (pc c) (zc c - zof (j - 21))

/-- The place device `c` waits for at its `i`-th wait. -/
def rcv (c : Dev nD) (i : ℕ) : Spot :=
  if i < 12 then .pb (pc c - ofs i) (zc c + zof i) else if i < 15 then .zb (zc c - ofs i)
  else if i < 18 then .ou (pc c) (zc c - ofs i)
  else .ou (pc c - ⟨((i - 18) / 4 + 1) % 4, Nat.mod_lt _ (by decide)⟩) ⟨(i - 18) % 4, Nat.mod_lt _ (by decide)⟩

/-- Whether some device's transfer lands at this place of the device: everywhere but at the device's own chunks. -/
def used (c : Dev nD) : Spot → Bool
  | .pb p _ => p != pc c
  | .zb z => z != zc c
  | .ou p z => !(p == pc c && z == zc c)

/-- The device whose transfer lands at a place of `d`, and that transfer's number. -/
def sdr (d : Dev nD) : Spot → Dev nD × ℕ
  | .pb p zz => (dv p (zc d), 3 * (zz - zc d - 1).val + (pc d - p - 1).val)
  | .zb z => (dv (pc d) z, 12 + (zc d - z - 1).val)
  | .ou p z => if p = pc d then (dv p z, 15 + (zc d - z - 1).val)
      else if z = zc d then (dv p z, 18 + (pc d - p - 1).val)
      else (dv p (zc d), 21 + 3 * (zc d - z - 1).val + (pc d - p - 1).val)

/-- The wait of `d` that waits for a place. -/
def rno (d : Dev nD) : Spot → ℕ
  | .pb p zz => 3 * (zz - zc d - 1).val + (pc d - p - 1).val
  | .zb z => 12 + (zc d - z - 1).val
  | .ou p z => if p = pc d then 15 + (zc d - z - 1).val else 18 + 4 * (pc d - p - 1).val + z.val

theorem used_dst : ∀ (c : Dev nD) (j : Fin 30), used (tgt c j) (dst c j) = true := by decide +kernel
theorem sdr_dst : ∀ (c : Dev nD) (j : Fin 30), sdr (tgt c j) (dst c j) = (c, j.val) := by decide +kernel
theorem tgt_sdr : ∀ (d : Dev nD) (x : Spot), used d x = true → (sdr d x).2 < 30 ∧ tgt (sdr d x).1 (sdr d x).2 = d ∧ dst (sdr d x).1 (sdr d x).2 = x := by
  intro d x
  rcases x with ⟨p, z⟩ | z | ⟨p, z⟩
  · revert d p z; decide +kernel
  · revert d z; decide +kernel
  · revert d p z; decide +kernel
theorem used_rcv : ∀ (c : Dev nD) (i : Fin 30), used c (rcv c i) = true := by decide +kernel
theorem rno_rcv : ∀ (c : Dev nD) (i : Fin 30), rno c (rcv c i) = i.val := by decide +kernel
theorem rcv_rno : ∀ (d : Dev nD) (x : Spot), used d x = true → rno d x < 30 ∧ rcv d (rno d x) = x := by
  intro d x
  rcases x with ⟨p, z⟩ | z | ⟨p, z⟩
  · revert d p z; decide +kernel
  · revert d z; decide +kernel
  · revert d p z; decide +kernel

/-! ## Neighbours: whom a device signals -/

/-- The six devices that share a device's plane or its column, in the order it signals them. -/
def nb (c : Dev nD) (k : Fin 6) : Dev nD := if k.val < 3 then dv (pc c + ofs k) (zc c) else dv (pc c) (zc c + ofs k)
/-- The number under which a device is its `k`-th neighbour's neighbour. -/
def opp (k : Fin 6) : Fin 6 := if k.val < 3 then ⟨(2 - k.val) % 6, Nat.mod_lt _ (by decide)⟩ else ⟨(8 - k.val) % 6, Nat.mod_lt _ (by decide)⟩
/-- The neighbour transfer `j` goes to. -/
def pn (j : ℕ) : Fin 6 := if 12 ≤ j ∧ j < 18 then ⟨3 + j % 3, by omega⟩ else ⟨j % 3, by omega⟩

theorem nb_opp : ∀ (c : Dev nD) (k : Fin 6), nb (nb c k) (opp k) = c := by decide +kernel
theorem opp_opp : ∀ k : Fin 6, opp (opp k) = k := by decide
theorem nb_pn : ∀ (c : Dev nD) (j : Fin 30), nb c (pn j) = tgt c j := by decide +kernel
theorem nb_inj : ∀ (c : Dev nD) (k k' : Fin 6), nb c k = nb c k' → k = k' := by decide +kernel

/-! ## Levels: every device waits below what it still owes -/

/-- The level of a landing place of a device. -/
def slv (d : Dev nD) : Spot → ℕ
  | .pb _ _ => 2
  | .zb _ => 3
  | .ou p _ => if p = pc d then 4 else 5

/-- How many transfers device `c` has started when it reaches its `i`-th wait. -/
def started (i : ℕ) : ℕ := if i < 12 then 12 + i / 3 else if i < 15 then 15 else if i < 18 then 21 + 3 * (i - 15) else 30

theorem slv_lt : ∀ (c : Dev nD) (i j : Fin 30), started i.val ≤ j.val → slv c (rcv c i) < slv (tgt c j) (dst c j) := by decide +kernel
theorem slv_ge : ∀ (c : Dev nD) (j : Fin 30), 2 ≤ slv (tgt c j) (dst c j) := by decide +kernel

/-! ## Values: whose chunk a place holds -/

/-- The value a chunk carries: a chunk of a device's product; a chunk of a device's plane sums; a device's final sum. -/
inductive Tag where
  | ac (d : Dev nD) (p z : Fin 4)
  | pr (d : Dev nD) (z : Fin 4)
  | fin (d : Dev nD)
  deriving DecidableEq

def rtag (d : Dev nD) : Spot → Tag
  | .pb p zz => .ac (dv p (zc d)) (pc d) zz
  | .zb z => .pr (dv (pc d) z) (zc d)
  | .ou p z => .fin (dv p z)
def stag (c : Dev nD) : Srce → Tag
  | .ac p z => .ac c p z
  | .pr z => .pr c z
  | .ou p z => .fin (dv p z)

theorem rtag_dst : ∀ (c : Dev nD) (j : Fin 30), rtag (tgt c j) (dst c j) = stag c (src c j) := by decide +kernel

/-! ## The printed offsets -/

/-- Chunk `(p, z)` of a `768 × 768` buffer; chunk `z` of a `192 × 768` one; chunk `zz` of part `p` of the plane buffer; part
    `z` of the column buffer: where each starts. -/
def offC (p z : Fin 4) : Fin 2 → ℕ := ![192 * p.val + 48 * z.val, 0]
def offR (z : Fin 4) : Fin 2 → ℕ := ![48 * z.val, 0]
def offB (p zz : Fin 4) : Fin 3 → ℕ := ![p.val, 48 * zz.val, 0]
def offZ (z : Fin 4) : Fin 3 → ℕ := ![z.val, 0, 0]

/-- A small number as the word the program computes with. -/
abbrev wd (a : Fin 4) : BitVec 32 := BitVec.ofNat 32 a.val

theorem off1_eq : ∀ (c : Dev nD) (a : Fin 4), k0_off1 c (wd a) = ![4 * (pc c).val + (zc c + a).val] := by decide +kernel
theorem off2_eq : ∀ (c : Dev nD) (a : Fin 4), k0_off2 c (wd a) = offB (pc c) (zc c + a) := by decide +kernel
theorem off3_eq : ∀ (c : Dev nD) (o a : Fin 4), k0_off3 c (wd o) (wd a) = offC (pc c + o) (zc c + a) := by decide +kernel
theorem off4_eq : ∀ (c : Dev nD) (a : Fin 4), k0_off4 c (wd a) = offC (pc c) (zc c + a) := by decide +kernel
theorem off5_eq : ∀ (c : Dev nD) (o a : Fin 4), k0_off5 c (wd o) (wd a) = ![4 * (pc c - o).val + (zc c + a).val] := by decide +kernel
theorem off6_eq : ∀ (c : Dev nD) (o a : Fin 4), k0_off6 c (wd o) (wd a) = offB (pc c - o) (zc c + a) := by decide +kernel
theorem off7_eq : ∀ (c : Dev nD) (o a : Fin 4), k0_off7 c (wd o) (wd a) = offB (pc c - o) (zc c + a) := by decide +kernel
theorem off8_eq : ∀ (c : Dev nD) (a : Fin 4), k0_off8 c (wd a) = offR (zc c + a) := by decide +kernel
theorem off9_eq : ∀ c : Dev nD, k0_off9 c = ![(zc c).val] := by decide +kernel
theorem off10_eq : ∀ c : Dev nD, k0_off10 c = offZ (zc c) := by decide +kernel
theorem off11_eq : ∀ (c : Dev nD) (a : Fin 4), k0_off11 c (wd a) = offR (zc c + a) := by decide +kernel
theorem off12_eq : ∀ c : Dev nD, k0_off12 c = offR (zc c) := by decide +kernel
theorem off13_eq : ∀ (c : Dev nD) (o : Fin 4), k0_off13 c (wd o) = ![(zc c - o).val] := by decide +kernel
theorem off14_eq : ∀ (c : Dev nD) (o : Fin 4), k0_off14 c (wd o) = offZ (zc c - o) := by decide +kernel
theorem off15_eq : ∀ (c : Dev nD) (o : Fin 4), k0_off15 c (wd o) = offZ (zc c - o) := by decide +kernel
theorem off16_eq : ∀ c : Dev nD, k0_off16 c = offC (pc c) (zc c) := by decide +kernel
theorem off17_eq : ∀ c : Dev nD, k0_off17 c = ![4 * (pc c).val + (zc c).val] := by decide +kernel
theorem off18_eq : ∀ c : Dev nD, k0_off18 c = offC (pc c) (zc c) := by decide +kernel
theorem off19_eq : ∀ (c : Dev nD) (o : Fin 4), k0_off19 c (wd o) = ![4 * (pc c).val + (zc c - o).val] := by decide +kernel
theorem off20_eq : ∀ (c : Dev nD) (o : Fin 4), k0_off20 c (wd o) = offC (pc c) (zc c - o) := by decide +kernel
theorem off21_eq : ∀ (c : Dev nD) (o a : Fin 4), k0_off21 c (wd o) (wd a) = ![4 * (pc c - o).val + a.val] := by decide +kernel
theorem off22_eq : ∀ (c : Dev nD) (o a : Fin 4), k0_off22 c (wd o) (wd a) = offC (pc c - o) a := by decide +kernel

/-! ## The printed device numbers -/

theorem dev1_eq : ∀ c : Dev nD, (⟨k0_dev1 c, k0_dev1_lt c⟩ : Dev nD) = nb c 0 := by decide +kernel
theorem dev2_eq : ∀ c : Dev nD, (⟨k0_dev2 c, k0_dev2_lt c⟩ : Dev nD) = nb c 1 := by decide +kernel
theorem dev3_eq : ∀ c : Dev nD, (⟨k0_dev3 c, k0_dev3_lt c⟩ : Dev nD) = nb c 2 := by decide +kernel
theorem dev4_eq : ∀ c : Dev nD, (⟨k0_dev4 c, k0_dev4_lt c⟩ : Dev nD) = nb c 3 := by decide +kernel
theorem dev5_eq : ∀ c : Dev nD, (⟨k0_dev5 c, k0_dev5_lt c⟩ : Dev nD) = nb c 4 := by decide +kernel
theorem dev6_eq : ∀ c : Dev nD, (⟨k0_dev6 c, k0_dev6_lt c⟩ : Dev nD) = nb c 5 := by decide +kernel
theorem dev7_eq : ∀ c : Dev nD, (⟨k0_dev7 c, k0_dev7_lt c⟩ : Dev nD) = tgt c 0 := by decide +kernel
theorem dev8_eq : ∀ c : Dev nD, (⟨k0_dev8 c, k0_dev8_lt c⟩ : Dev nD) = tgt c 1 := by decide +kernel
theorem dev9_eq : ∀ c : Dev nD, (⟨k0_dev9 c, k0_dev9_lt c⟩ : Dev nD) = tgt c 2 := by decide +kernel
theorem dev10_eq : ∀ c : Dev nD, (⟨k0_dev10 c, k0_dev10_lt c⟩ : Dev nD) = tgt c 3 := by decide +kernel
theorem dev11_eq : ∀ c : Dev nD, (⟨k0_dev11 c, k0_dev11_lt c⟩ : Dev nD) = tgt c 4 := by decide +kernel
theorem dev12_eq : ∀ c : Dev nD, (⟨k0_dev12 c, k0_dev12_lt c⟩ : Dev nD) = tgt c 5 := by decide +kernel
theorem dev13_eq : ∀ c : Dev nD, (⟨k0_dev13 c, k0_dev13_lt c⟩ : Dev nD) = tgt c 6 := by decide +kernel
theorem dev14_eq : ∀ c : Dev nD, (⟨k0_dev14 c, k0_dev14_lt c⟩ : Dev nD) = tgt c 7 := by decide +kernel
theorem dev15_eq : ∀ c : Dev nD, (⟨k0_dev15 c, k0_dev15_lt c⟩ : Dev nD) = tgt c 8 := by decide +kernel
theorem dev16_eq : ∀ c : Dev nD, (⟨k0_dev16 c, k0_dev16_lt c⟩ : Dev nD) = tgt c 9 := by decide +kernel
theorem dev17_eq : ∀ c : Dev nD, (⟨k0_dev17 c, k0_dev17_lt c⟩ : Dev nD) = tgt c 10 := by decide +kernel
theorem dev18_eq : ∀ c : Dev nD, (⟨k0_dev18 c, k0_dev18_lt c⟩ : Dev nD) = tgt c 11 := by decide +kernel
theorem dev19_eq : ∀ c : Dev nD, (⟨k0_dev19 c, k0_dev19_lt c⟩ : Dev nD) = tgt c 12 := by decide +kernel
theorem dev20_eq : ∀ c : Dev nD, (⟨k0_dev20 c, k0_dev20_lt c⟩ : Dev nD) = tgt c 13 := by decide +kernel
theorem dev21_eq : ∀ c : Dev nD, (⟨k0_dev21 c, k0_dev21_lt c⟩ : Dev nD) = tgt c 14 := by decide +kernel
theorem dev22_eq : ∀ c : Dev nD, (⟨k0_dev22 c, k0_dev22_lt c⟩ : Dev nD) = tgt c 15 := by decide +kernel
theorem dev23_eq : ∀ c : Dev nD, (⟨k0_dev23 c, k0_dev23_lt c⟩ : Dev nD) = tgt c 16 := by decide +kernel
theorem dev24_eq : ∀ c : Dev nD, (⟨k0_dev24 c, k0_dev24_lt c⟩ : Dev nD) = tgt c 17 := by decide +kernel
theorem dev25_eq : ∀ c : Dev nD, (⟨k0_dev25 c, k0_dev25_lt c⟩ : Dev nD) = tgt c 18 := by decide +kernel
theorem dev26_eq : ∀ c : Dev nD, (⟨k0_dev26 c, k0_dev26_lt c⟩ : Dev nD) = tgt c 19 := by decide +kernel
theorem dev27_eq : ∀ c : Dev nD, (⟨k0_dev27 c, k0_dev27_lt c⟩ : Dev nD) = tgt c 20 := by decide +kernel
theorem dev28_eq : ∀ c : Dev nD, (⟨k0_dev28 c, k0_dev28_lt c⟩ : Dev nD) = tgt c 21 := by decide +kernel
theorem dev29_eq : ∀ c : Dev nD, (⟨k0_dev29 c, k0_dev29_lt c⟩ : Dev nD) = tgt c 22 := by decide +kernel
theorem dev30_eq : ∀ c : Dev nD, (⟨k0_dev30 c, k0_dev30_lt c⟩ : Dev nD) = tgt c 23 := by decide +kernel
theorem dev31_eq : ∀ c : Dev nD, (⟨k0_dev31 c, k0_dev31_lt c⟩ : Dev nD) = tgt c 24 := by decide +kernel
theorem dev32_eq : ∀ c : Dev nD, (⟨k0_dev32 c, k0_dev32_lt c⟩ : Dev nD) = tgt c 25 := by decide +kernel
theorem dev33_eq : ∀ c : Dev nD, (⟨k0_dev33 c, k0_dev33_lt c⟩ : Dev nD) = tgt c 26 := by decide +kernel
theorem dev34_eq : ∀ c : Dev nD, (⟨k0_dev34 c, k0_dev34_lt c⟩ : Dev nD) = tgt c 27 := by decide +kernel
theorem dev35_eq : ∀ c : Dev nD, (⟨k0_dev35 c, k0_dev35_lt c⟩ : Dev nD) = tgt c 28 := by decide +kernel
theorem dev36_eq : ∀ c : Dev nD, (⟨k0_dev36 c, k0_dev36_lt c⟩ : Dev nD) = tgt c 29 := by decide +kernel

end Cert.KernelIdeal.Prf
-- ==== Proof.KernelIdeal.Chunk.lean ====
/-
# The chunks of the buffers

Every transfer moves `48 × 768` elements: a chunk of the local product, of the plane sums, of a landing buffer or of the
result. This module names the chunks as slices of the kernel's buffers, names the semaphores, and proves that the printed
slices at computed offsets are these chunks, that a load or a store at such offsets reads or overwrites the chunk, and that
a buffer is the conjunction of its chunks.
-/
module

public import proofs.«01_k».proof.Proof.KernelIdeal.Tab
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 6)
abbrev UU : Type := UR sig nD τ × UB

local notation "𝕄" => MT nD τ sig Unit (Elt F) ℕ UU ℕ

/-! ## Buffers and chunks -/

abbrev aW : Memref sig .tc .vmem S768x384 .f32 := Memref.whole cc0_stg0_0
abbrev bW : Memref sig .tc .vmem S384x768 .f32 := Memref.whole cc0_stg1_0
abbrev outW : Memref sig .tc .vmem S768x768 .f32 := Memref.whole cc0_stg2_0
abbrev accW : Memref sig .tc .vmem S768x768 .f32 := Memref.whole cc0_scratch0
abbrev prW : Memref sig .tc .vmem S192x768 .f32 := Memref.whole cc0_scratch1
abbrev pbW : Memref sig .tc .vmem S4x192x768 .f32 := Memref.whole cc0_scratch2
abbrev zbW : Memref sig .tc .vmem S4x48x768 .f32 := Memref.whole cc0_scratch3

theorem inbC : ∀ (p z : Fin 4) (a : Fin 2), offC p z a + S48x768.size a ≤ S768x768.size a := by decide
theorem inbR : ∀ (z : Fin 4) (a : Fin 2), offR z a + S48x768.size a ≤ S192x768.size a := by decide
theorem inbB : ∀ (p zz : Fin 4) (a : Fin 3), offB p zz a + S1x48x768.size a ≤ S4x192x768.size a := by decide
theorem inbZ : ∀ (z : Fin 4) (a : Fin 3), offZ z a + S1x48x768.size a ≤ S4x48x768.size a := by decide

abbrev rectC (p z : Fin 4) : Rect S768x768 := Rect.unit (s := S768x768) (offC p z) S48x768.size (inbC p z)
abbrev rectR (z : Fin 4) : Rect S192x768 := Rect.unit (s := S192x768) (offR z) S48x768.size (inbR z)
abbrev rectB (p zz : Fin 4) : Rect S4x192x768 := Rect.unit (s := S4x192x768) (offB p zz) S1x48x768.size (inbB p zz)
abbrev rectZ (z : Fin 4) : Rect S4x48x768 := Rect.unit (s := S4x48x768) (offZ z) S1x48x768.size (inbZ z)

/-- The chunk a transfer reads, and the one it lands on. -/
def srcM : Srce → Memref sig .tc .vmem S48x768 .f32
  | .ac p z => accW.slice (rectC p z) (fun _ => rfl)
  | .pr z => prW.slice (rectR z) (fun _ => rfl)
  | .ou p z => outW.slice (rectC p z) (fun _ => rfl)
def spotM : Spot → Memref sig .tc .vmem S48x768 .f32
  | .pb p zz => (pbW.slice (rectB p zz) (fun _ => rfl)).squeeze S48x768 squeezes_S1x48x768_S48x768
  | .zb z => (zbW.slice (rectZ z) (fun _ => rfl)).squeeze S48x768 squeezes_S1x48x768_S48x768
  | .ou p z => outW.slice (rectC p z) (fun _ => rfl)

/-- What one transfer of a chunk counts on a semaphore. -/
abbrev N : ℕ := (spotM (.ou 0 0)).view.dmaCredit
theorem N_pos : 0 < N := View.dmaCredit_pos _ (by decide)
/-- The count depends only on a chunk's shape and element type. -/
theorem credit_any (M : Memref sig .tc .vmem S48x768 .f32) : M.view.dmaCredit = N := rfl
theorem credit_spot (x : Spot) : (spotM x).view.dmaCredit = N := by cases x <;> rfl
theorem credit_src (x : Srce) : (srcM x).view.dmaCredit = N := by cases x <;> rfl

/-! ## The printed slices are the chunks -/

section Slices
variable {off : Fin 2 → ℕ} {off3 : Fin 3 → ℕ}

theorem acc_slice (p z : Fin 4) (h : off = offC p z) (i hs) :
    (accW.slice (Rect.unit (s := S768x768) off S48x768.size i) hs : Memref sig .tc .vmem S48x768 .f32) = srcM (.ac p z) := by subst h; rfl
theorem pr_slice (z : Fin 4) (h : off = offR z) (i hs) :
    (prW.slice (Rect.unit (s := S192x768) off S48x768.size i) hs : Memref sig .tc .vmem S48x768 .f32) = srcM (.pr z) := by subst h; rfl
theorem out_slice (p z : Fin 4) (h : off = offC p z) (i hs) :
    (outW.slice (Rect.unit (s := S768x768) off S48x768.size i) hs : Memref sig .tc .vmem S48x768 .f32) = srcM (.ou p z) := by subst h; rfl
theorem pb_slice (p zz : Fin 4) (h : off3 = offB p zz) (i hs) :
    ((pbW.slice (Rect.unit (s := S4x192x768) off3 S1x48x768.size i) hs).squeeze S48x768 squeezes_S1x48x768_S48x768 : Memref sig .tc .vmem S48x768 .f32)
      = spotM (.pb p zz) := by subst h; rfl
theorem zb_slice (z : Fin 4) (h : off3 = offZ z) (i hs) :
    ((zbW.slice (Rect.unit (s := S4x48x768) off3 S1x48x768.size i) hs).squeeze S48x768 squeezes_S1x48x768_S48x768 : Memref sig .tc .vmem S48x768 .f32)
      = spotM (.zb z) := by subst h; rfl
theorem src_ou (p z : Fin 4) : srcM (.ou p z) = spotM (.ou p z) := rfl
end Slices

/-! ## The semaphores -/

/-- The runtime's barrier semaphore; transfer `j`'s send semaphore; the receive semaphore of a landing place. -/
abbrev barS : Sem sig := (SemArray.scalar (sig.barrier 0 rfl) : Sems sig S_).sem
def sS (j : ℕ) : DmaSem sig := ⟨3 + j % 30, show _ < 69 by omega⟩
def rS : Spot → DmaSem sig
  | .pb p zz => ⟨33 + (4 * p.val + zz.val), show _ < 69 by omega⟩
  | .zb z => ⟨49 + z.val, show _ < 69 by omega⟩
  | .ou p z => ⟨53 + (4 * p.val + z.val), show _ < 69 by omega⟩

/-- The landing place a receive semaphore belongs to. -/
def spotOf (q : ℕ) : Spot :=
  if q < 49 then .pb ⟨(q - 33) / 4 % 4, Nat.mod_lt _ (by decide)⟩ ⟨(q - 33) % 4, Nat.mod_lt _ (by decide)⟩
  else if q < 53 then .zb ⟨(q - 49) % 4, Nat.mod_lt _ (by decide)⟩
  else .ou ⟨(q - 53) / 4 % 4, Nat.mod_lt _ (by decide)⟩ ⟨(q - 53) % 4, Nat.mod_lt _ (by decide)⟩

theorem spotOf_rS (x : Spot) : spotOf (rS x).val = x := by
  rcases x with ⟨p, z⟩ | z | ⟨p, z⟩
  · revert p z; decide
  · revert z; decide
  · revert p z; decide
theorem rS_ge (x : Spot) : 33 ≤ (rS x).val := by
  rcases x with ⟨p, z⟩ | z | ⟨p, z⟩
  · exact Nat.le_add_right _ _
  · exact (by omega : 33 ≤ 49 + z.val)
  · exact (by omega : 33 ≤ 53 + (4 * p.val + z.val))
theorem rS_spotOf : ∀ q : Fin 69, 33 ≤ q.val → rS (spotOf q.val) = q := by decide
theorem rS_inj {x y : Spot} (h : rS x = rS y) : x = y := by
  rw [← spotOf_rS x, ← spotOf_rS y, h]
theorem sS_val {j : ℕ} (hj : j < 30) : (sS j).val = 3 + j := by show 3 + j % 30 = _; rw [Nat.mod_eq_of_lt hj]
theorem sS_ne_rS (j : ℕ) (x : Spot) : sS j ≠ rS x := fun h => by
  have h1 := congrArg Fin.val h
  have h2 := rS_ge x
  have h3 : (sS j).val = 3 + j % 30 := rfl
  omega

section Sems
variable {off : Fin 1 → ℕ}

theorem pb_sem (p zz : Fin 4) (h : off = ![4 * p.val + zz.val]) (i) :
    ((cc0_scratch5.slice (Rect.unit (s := S16) off S1.size i)).squeeze S_ squeezes_S1_S_).sem = rS (.pb p zz) := by
  subst h; revert p zz; decide
theorem zb_sem (z : Fin 4) (h : off = ![z.val]) (i) :
    ((cc0_scratch6.slice (Rect.unit (s := S4) off S1.size i)).squeeze S_ squeezes_S1_S_).sem = rS (.zb z) := by
  subst h; revert z; decide
theorem ou_sem (p z : Fin 4) (h : off = ![4 * p.val + z.val]) (i) :
    ((cc0_scratch7.slice (Rect.unit (s := S16) off S1.size i)).squeeze S_ squeezes_S1_S_).sem = rS (.ou p z) := by
  subst h; revert p z; decide
theorem send_sem (j : Fin 30) (i) :
    ((cc0_scratch4.slice (Rect.unit (s := S30) ![j.val] S1.size i)).squeeze S_ squeezes_S1_S_).sem = sS j := by
  revert j; decide
end Sems

/-! ## Owning a chunk -/

omit [FloatOps F] in
/-- Owning a squeezed memref is owning the memref at the same values. -/
theorem owns_squeeze (c : Dev nD) {sp : Space} {s s' : Shape} {e : EltTy} (m : Memref sig .tc sp s e) (h : s.Squeezes s') (q : PosShare TreeShare)
    (X : s.Idx → Elt F e) :
    (owns (c : Thread nD τ) (m.squeeze s' h) q (fun i => X (Shape.reshapeEquiv h.numel_eq i)) : sProp 𝕄) = owns (c : Thread nD τ) m q X := by
  unfold owns
  have hset : (m.squeeze s' h).view.set = m.view.set := View.set_reshape m.view h.numel_eq
  have hread : ∀ f, ((m.squeeze s' h).view.read (Elt F) f = fun i => X (Shape.reshapeEquiv h.numel_eq i)) ↔ m.view.read (Elt F) f = X := fun f =>
    ⟨fun he => funext fun i => by
        have := (show m.view.read (Elt F) f (Shape.reshapeEquiv h.numel_eq ((Shape.reshapeEquiv h.numel_eq).symm i)) = _ from
          congrFun he ((Shape.reshapeEquiv h.numel_eq).symm i))
        rwa [Equiv.apply_symm_apply] at this,
      fun he => funext fun i => congrFun he _⟩
  simp only [hset, hread]

omit [FloatOps F] in
theorem owns_any (c : Dev nD) {sp : Space} {s : Shape} {e : EltTy} (m : Memref sig .tc sp s e) (q : PosShare TreeShare) (X : s.Idx → Elt F e) :
    (owns (c : Thread nD τ) m q X : sProp 𝕄) ⊢ iprop(∃ X, owns (c : Thread nD τ) m q X) := by
  iintro H; iexists X; iexact H

omit [FloatOps F] in
/-- A chunk at some contents. -/
theorem owns_squeeze_any (c : Dev nD) {sp : Space} {s s' : Shape} {e : EltTy} (m : Memref sig .tc sp s e) (h : s.Squeezes s') (q : PosShare TreeShare) :
    (iprop(∃ X, owns (c : Thread nD τ) (m.squeeze s' h) q X) : sProp 𝕄) = iprop(∃ X, owns (c : Thread nD τ) m q X) := by
  have h₁ : iprop(∃ X, owns (c : Thread nD τ) (m.squeeze s' h) q X) ⊢ (iprop(∃ X, owns (c : Thread nD τ) m q X) : sProp 𝕄) := by
    iintro ⟨%X, H⟩
    iexists (fun i => X ((Shape.reshapeEquiv h.numel_eq).symm i))
    rw [← owns_squeeze c m h]
    simp only [Equiv.symm_apply_apply]
    iexact H
  have h₂ : iprop(∃ X, owns (c : Thread nD τ) m q X) ⊢ (iprop(∃ X, owns (c : Thread nD τ) (m.squeeze s' h) q X) : sProp 𝕄) := by
    iintro ⟨%X, H⟩
    iexists _
    rw [owns_squeeze c m h]
    iexact H
  exact BI.equiv_iff.mp ⟨h₁, h₂⟩

/-! ## Loads and stores of a chunk -/

abbrev 𝒱₀ : Variants := Variants.none

section Access
variable (c : Dev nD) {s : Shape} {e : EltTy} (m : Memref sig .tc .vmem s e) {off off' size : Fin s.rank → ℕ}
  {α : Type} {q : PosShare TreeShare}

/-- A load of a chunk held at values reads them. -/
theorem wp_ld {Q : α → sProp 𝕄} (h : off = off') (i i' hs) {hl} {k} (X) :
    (owns (c : Thread nD τ) (m.slice (Rect.unit (s := s) off' size i') hs) q X : sProp 𝕄)
      ⊢ iprop((owns (c : Thread nD τ) (m.slice (Rect.unit (s := s) off' size i') hs) q X -∗ wp frame (wpE (defs₀ (F := F)) 𝒱₀ (c : Thread nD τ) none) Set.univ (k X) Q)
        -∗ wp frame (wpE (defs₀ (F := F)) 𝒱₀ (c : Thread nD τ) none) Set.univ (.op (.load m (Rect.unit (s := s) off size i).toLoadRect hl) k) Q) := by
  subst h
  iintro H Hk
  ihave H' := (show owns (c : Thread nD τ) (m.slice (Rect.unit (s := s) off size i') hs) q X
    ⊢ iprop(∃ g, ⌜(m.access (Rect.unit (s := s) off size i)).read (Elt F) g = X⌝ ∗ (m.access (Rect.unit (s := s) off size i)).loc (c : Thread nD τ) ↦[(m.access (Rect.unit (s := s) off size i)).set]{q} g) from .rfl) $$ H
  icases H' with ⟨%g, %hg, H⟩
  iapply (wp_load_rect 𝒱₀ (c : Thread nD τ) none Set.univ (m := m) (r := Rect.unit (s := s) off size i) (Finset.Subset.refl _)) $$ H
  iintro H
  rw [hg]
  iapply Hk
  subst hg
  iapply (owns_intro (c : Thread nD τ) (m.slice (Rect.unit (s := s) off size i) hs) q g)
  iexact H

/-- A load of a chunk held at some contents. -/
theorem wp_ld_any {Q : α → sProp 𝕄} (h : off = off') (i i' hs) {hl} {k} :
    (iprop(∃ X, owns (c : Thread nD τ) (m.slice (Rect.unit (s := s) off' size i') hs) q X) : sProp 𝕄)
      ⊢ iprop((∀ Y, (iprop(∃ X, owns (c : Thread nD τ) (m.slice (Rect.unit (s := s) off' size i') hs) q X) -∗ wp frame (wpE (defs₀ (F := F)) 𝒱₀ (c : Thread nD τ) none) Set.univ (k Y) Q))
        -∗ wp frame (wpE (defs₀ (F := F)) 𝒱₀ (c : Thread nD τ) none) Set.univ (.op (.load m (Rect.unit (s := s) off size i).toLoadRect hl) k) Q) := by
  iintro ⟨%X, H⟩ Hk
  iapply (wp_ld c m h i i' hs X) $$ H
  iintro H
  iapply Hk
  iexists X
  iexact H

/-- A load of a chunk through the buffer's own slice, the chunk held squeezed. -/
theorem wp_ld_sq {Q : α → sProp 𝕄} {s' : Shape} (h : off = off') (i i' hs) (hq : (Rect.unit (s := s) off' size i').shape.Squeezes s') {hl} {k} (X) :
    (owns (c : Thread nD τ) ((m.slice (Rect.unit (s := s) off' size i') hs).squeeze s' hq) q X : sProp 𝕄)
      ⊢ iprop((owns (c : Thread nD τ) ((m.slice (Rect.unit (s := s) off' size i') hs).squeeze s' hq) q X
            -∗ wp frame (wpE (defs₀ (F := F)) 𝒱₀ (c : Thread nD τ) none) Set.univ (k (fun j => X ((Shape.reshapeEquiv hq.numel_eq).symm j))) Q)
        -∗ wp frame (wpE (defs₀ (F := F)) 𝒱₀ (c : Thread nD τ) none) Set.univ (.op (.load m (Rect.unit (s := s) off size i).toLoadRect hl) k) Q) := by
  subst h
  have e := owns_squeeze (F := F) c (m.slice (Rect.unit (s := s) off size i) hs) hq q (fun j => X ((Shape.reshapeEquiv hq.numel_eq).symm j))
  simp only [Equiv.symm_apply_apply] at e
  rw [show (m.slice (Rect.unit (s := s) off size i') hs).squeeze s' hq = (m.slice (Rect.unit (s := s) off size i) hs).squeeze s' hq from rfl, e]
  exact wp_ld c m rfl i i hs _

/-- A store over a chunk held at some contents leaves it at the values stored. -/
theorem wp_st {Q : α → sProp 𝕄} (h : off = off') (i i' hs) {hx hm} {k} (w) :
    (iprop(∃ X, owns (c : Thread nD τ) (m.slice (Rect.unit (s := s) off' size i') hs) fullShare X) : sProp 𝕄)
      ⊢ iprop((owns (c : Thread nD τ) (m.slice (Rect.unit (s := s) off' size i') hs) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit (s := s) off size i) w Finset.univ hx hm) k) Q) := by
  subst h
  iintro ⟨%X, H⟩ Hk
  ihave H' := (show owns (c : Thread nD τ) (m.slice (Rect.unit (s := s) off size i') hs) fullShare X
    ⊢ iprop(∃ g, ⌜(m.access (Rect.unit (s := s) off size i)).read (Elt F) g = X⌝ ∗ (m.access (Rect.unit (s := s) off size i)).loc (c : Thread nD τ) ↦[(m.access (Rect.unit (s := s) off size i)).set]{fullShare} g) from .rfl) $$ H
  icases H' with ⟨%g, -, H⟩
  iapply (wp_store 𝒱₀ (c : Thread nD τ) none Set.univ (m := m) (r := Rect.unit (s := s) off size i) (Mk := Finset.univ)
    ((m.access (Rect.unit (s := s) off size i)).setOn_subset_set _)) $$ H
  iintro H
  iapply Hk
  ihave H := (owns_intro (c : Thread nD τ) (m.slice (Rect.unit (s := s) off size i) hs) fullShare _) $$ H
  rw [show (m.slice (Rect.unit (s := s) off size i) hs).view.read (Elt F) ((m.access (Rect.unit (s := s) off size i)).write (Elt F) g w Finset.univ) = w from
    View.read_write_univ _ _]
  iexact H

end Access

/-! ## A buffer is its chunks -/

section Cover
variable (c : Dev nD) {sp : Space} {sh : Shape} {e : EltTy} (m : Memref sig .tc sp sh e) {T : Type} [Fintype T] [DecidableEq T]
  (r : T → Rect sh) (hr : ∀ t a, (r t).stride a = 1)
  (hd : ∀ t t', t ≠ t' → Disjoint (r t).set (r t').set)
  (hcov : (Finset.univ : Finset T).biUnion (fun t => (r t).set) = Finset.univ)
include hd hcov

/-- Slices of a disjoint covering family, each held at some contents, are the memref at some contents. -/
theorem owns_of_rects_any :
    BI.bigSep Finset.univ (fun t => iprop(∃ X, owns (c : Thread nD τ) (m.slice (r t) (hr t)) fullShare X))
      ⊢ (iprop(∃ X, owns (c : Thread nD τ) m fullShare X) : sProp 𝕄) := by
  have hne : ∀ t : T, Nonempty ((r t).shape.Idx → Elt F e) := fun t => ⟨fun _ => Classical.arbitrary _⟩
  refine (BI.bigSep_exists_pi Finset.univ (fun t (X : (r t).shape.Idx → Elt F e) => (owns (c : Thread nD τ) (m.slice (r t) (hr t)) fullShare X : sProp 𝕄))).trans ?_
  iintro ⟨%Xs, H⟩
  have hx : ∃ X : sh.Idx → Elt F e, ∀ t, (fun j => X ((r t).emb j)) = Xs t := by
    refine ⟨fun i => if h : ∃ t, ∃ j : (r t).shape.Idx, (r t).emb j = i then Xs h.choose h.choose_spec.choose else Classical.arbitrary _, fun t => funext fun j => ?_⟩
    have h : ∃ t', ∃ j' : (r t').shape.Idx, (r t').emb j' = (r t).emb j := ⟨t, j, rfl⟩
    beta_reduce
    rw [dif_pos h]
    have hs := h.choose_spec.choose_spec
    generalize h.choose_spec.choose = j' at hs ⊢
    revert j' hs
    generalize h.choose = t'
    intro j' hs
    have ht : t' = t := by
      by_contra hn
      exact Finset.disjoint_left.mp (hd t' t hn) ((r t').idx_mem j') (show (r t').emb j' ∈ (r t).set by rw [hs]; exact (r t).idx_mem j)
    subst ht
    rw [(r t').emb.injective hs]
  obtain ⟨X, hX⟩ := hx
  iexists X
  iapply (owns_of_rects (c : Thread nD τ) m fullShare r hr hd hcov X)
  iapply (Entails.of_eq (BI.bigSep_congr fun t _ => by rw [hX t]))
  iexact H

/-- and back. -/
theorem owns_rects_any :
    (iprop(∃ X, owns (c : Thread nD τ) m fullShare X) : sProp 𝕄)
      ⊢ BI.bigSep Finset.univ (fun t => iprop(∃ X, owns (c : Thread nD τ) (m.slice (r t) (hr t)) fullShare X)) := by
  iintro ⟨%X, H⟩
  iapply ((owns_rects (c : Thread nD τ) m fullShare r hr hd hcov X).trans (bigSep_mono fun t _ => owns_any c _ _ _))
  iexact H

end Cover

/-! The four families. -/

theorem disjC (t t' : Fin 4 × Fin 4) (h : t ≠ t') : Disjoint (rectC t.1 t.2).set (rectC t'.1 t'.2).set := by
  rw [Finset.disjoint_left]
  intro i h1 h2
  have a1 := Rect.mem_set_unit.mp h1 0
  have a2 := Rect.mem_set_unit.mp h2 0
  change 192 * t.1.val + 48 * t.2.val ≤ _ ∧ _ < 192 * t.1.val + 48 * t.2.val + 48 at a1
  change 192 * t'.1.val + 48 * t'.2.val ≤ _ ∧ _ < 192 * t'.1.val + 48 * t'.2.val + 48 at a2
  obtain ⟨⟨p, hp⟩, ⟨z, hz⟩⟩ := t
  obtain ⟨⟨p', hp'⟩, ⟨z', hz'⟩⟩ := t'
  simp only at a1 a2
  obtain rfl : p = p' := by omega
  obtain rfl : z = z' := by omega
  exact h rfl

theorem covC : (Finset.univ : Finset (Fin 4 × Fin 4)).biUnion (fun t => (rectC t.1 t.2).set) = Finset.univ := by
  ext i
  simp only [Finset.mem_univ, iff_true, Finset.mem_biUnion, true_and]
  have h0 : (i 0).val < 768 := (i 0).isLt
  have h1 : (i 1).val < 768 := (i 1).isLt
  refine ⟨(⟨(i 0).val / 192, by omega⟩, ⟨(i 0).val % 192 / 48, by omega⟩), Rect.mem_set_unit.mpr fun a => ?_⟩
  fin_cases a
  · change 192 * ((i 0).val / 192) + 48 * ((i 0).val % 192 / 48) ≤ (i 0).val ∧ (i 0).val < 192 * ((i 0).val / 192) + 48 * ((i 0).val % 192 / 48) + 48
    omega
  · change 0 ≤ (i 1).val ∧ (i 1).val < 0 + 768
    omega

theorem disjR (t t' : Fin 4) (h : t ≠ t') : Disjoint (rectR t).set (rectR t').set := by
  rw [Finset.disjoint_left]
  intro i h1 h2
  have a1 := Rect.mem_set_unit.mp h1 0
  have a2 := Rect.mem_set_unit.mp h2 0
  change 48 * t.val ≤ _ ∧ _ < 48 * t.val + 48 at a1
  change 48 * t'.val ≤ _ ∧ _ < 48 * t'.val + 48 at a2
  exact h (Fin.ext (by omega))

theorem covR : (Finset.univ : Finset (Fin 4)).biUnion (fun t => (rectR t).set) = Finset.univ := by
  ext i
  simp only [Finset.mem_univ, iff_true, Finset.mem_biUnion, true_and]
  have h0 : (i 0).val < 192 := (i 0).isLt
  have h1 : (i 1).val < 768 := (i 1).isLt
  refine ⟨⟨(i 0).val / 48, by omega⟩, Rect.mem_set_unit.mpr fun a => ?_⟩
  fin_cases a
  · change 48 * ((i 0).val / 48) ≤ (i 0).val ∧ (i 0).val < 48 * ((i 0).val / 48) + 48
    omega
  · change 0 ≤ (i 1).val ∧ (i 1).val < 0 + 768
    omega

theorem disjB (t t' : Fin 4 × Fin 4) (h : t ≠ t') : Disjoint (rectB t.1 t.2).set (rectB t'.1 t'.2).set := by
  rw [Finset.disjoint_left]
  intro i h1 h2
  have a1 := Rect.mem_set_unit.mp h1 0
  have a2 := Rect.mem_set_unit.mp h2 0
  have b1 := Rect.mem_set_unit.mp h1 1
  have b2 := Rect.mem_set_unit.mp h2 1
  change t.1.val ≤ _ ∧ _ < t.1.val + 1 at a1
  change t'.1.val ≤ _ ∧ _ < t'.1.val + 1 at a2
  change 48 * t.2.val ≤ _ ∧ _ < 48 * t.2.val + 48 at b1
  change 48 * t'.2.val ≤ _ ∧ _ < 48 * t'.2.val + 48 at b2
  exact h (Prod.ext (Fin.ext (by omega)) (Fin.ext (by omega)))

theorem covB : (Finset.univ : Finset (Fin 4 × Fin 4)).biUnion (fun t => (rectB t.1 t.2).set) = Finset.univ := by
  ext i
  simp only [Finset.mem_univ, iff_true, Finset.mem_biUnion, true_and]
  have h0 : (i 0).val < 4 := (i 0).isLt
  have h1 : (i 1).val < 192 := (i 1).isLt
  have h2 : (i 2).val < 768 := (i 2).isLt
  refine ⟨(⟨(i 0).val, h0⟩, ⟨(i 1).val / 48, by omega⟩), Rect.mem_set_unit.mpr fun a => ?_⟩
  fin_cases a
  · change (i 0).val ≤ (i 0).val ∧ (i 0).val < (i 0).val + 1
    omega
  · change 48 * ((i 1).val / 48) ≤ (i 1).val ∧ (i 1).val < 48 * ((i 1).val / 48) + 48
    omega
  · change 0 ≤ (i 2).val ∧ (i 2).val < 0 + 768
    omega

theorem disjZ (t t' : Fin 4) (h : t ≠ t') : Disjoint (rectZ t).set (rectZ t').set := by
  rw [Finset.disjoint_left]
  intro i h1 h2
  have a1 := Rect.mem_set_unit.mp h1 0
  have a2 := Rect.mem_set_unit.mp h2 0
  change t.val ≤ _ ∧ _ < t.val + 1 at a1
  change t'.val ≤ _ ∧ _ < t'.val + 1 at a2
  exact h (Fin.ext (by omega))

theorem covZ : (Finset.univ : Finset (Fin 4)).biUnion (fun t => (rectZ t).set) = Finset.univ := by
  ext i
  simp only [Finset.mem_univ, iff_true, Finset.mem_biUnion, true_and]
  have h0 : (i 0).val < 4 := (i 0).isLt
  have h1 : (i 1).val < 48 := (i 1).isLt
  have h2 : (i 2).val < 768 := (i 2).isLt
  refine ⟨⟨(i 0).val, h0⟩, Rect.mem_set_unit.mpr fun a => ?_⟩
  fin_cases a
  · change (i 0).val ≤ (i 0).val ∧ (i 0).val < (i 0).val + 1
    omega
  · change 0 ≤ (i 1).val ∧ (i 1).val < 0 + 48
    omega
  · change 0 ≤ (i 2).val ∧ (i 2).val < 0 + 768
    omega

end Cert.KernelIdeal.Prf

end
-- ==== Proof.KernelIdeal.Sched.lean ====
/-
# The schedule of the semaphores

Every semaphore of a device is used in one round. The barrier semaphore collects six units, one from each neighbour, and a
neighbour's unit hands over the landing places on that neighbour the device will write to. A send semaphore hands back the
chunk its transfer read, a receive semaphore the chunk that landed, both with their values. This module states the values
chunk by chunk, the schedule, what a device owes when, and that every wait is below everything still owed.
-/
module

public import proofs.«01_k».proof.Proof.KernelIdeal.Chunk

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Values -/

abbrev Chk (F : FTy → Type) : Type := Vec F S48x768 .f32

/-- The two operand blocks of a device as staged. -/
def astg (c : Dev nD) : (cc0_stg0_0 : Ref sig .tc).ty.Contents (Elt F) :=
  (win0_0.blk (0 : Fin 1)).view.read (Elt F) ((s₀ m ρ).mem ((c : Thread nD τ).loc main_arg0))
def bstg (c : Dev nD) : (cc0_stg1_0 : Ref sig .tc).ty.Contents (Elt F) :=
  (win0_1.blk (0 : Fin 1)).view.read (Elt F) ((s₀ m ρ).mem ((c : Thread nD τ).loc main_arg1))

/-- The local product of a device and its chunks. -/
def mval (c : Dev nD) : Vec F S768x768 .f32 := k0_pay1 (astg m ρ c) (bstg m ρ c)
def aval (c : Dev nD) (p z : Fin 4) : Chk F := fun j => mval m ρ c ((rectC p z).emb j)

/-- A chunk with three more added, in order. -/
def add3 (a x y z : Chk F) : Chk F := addf (addf (addf a x) y) z

/-- The sum of a plane's four products on a device's rows, chunk `zz`; the sum of a column's four plane sums. -/
def prv (c : Dev nD) (zz : Fin 4) : Chk F :=
  add3 (aval m ρ c (pc c) zz) (aval m ρ (dv (pc c - 1) (zc c)) (pc c) zz) (aval m ρ (dv (pc c - 2) (zc c)) (pc c) zz)
    (aval m ρ (dv (pc c - 3) (zc c)) (pc c) zz)
def red (c : Dev nD) : Chk F :=
  add3 (prv m ρ c (zc c)) (prv m ρ (dv (pc c) (zc c - 1)) (zc c)) (prv m ρ (dv (pc c) (zc c - 2)) (zc c))
    (prv m ρ (dv (pc c) (zc c - 3)) (zc c))

def tval : Tag → Chk F
  | .ac d p z => aval m ρ d p z
  | .pr d z => prv m ρ d z
  | .fin d => red m ρ d

/-! ## Shares, payloads -/

abbrev fL : PosShare TreeShare := (fullShare : PosShare TreeShare).left
abbrev fR : PosShare TreeShare := (fullShare : PosShare TreeShare).right

/-- The share of its chunk transfer `j` reads with: six transfers read a device's own result chunk, three each chunk it
    passes on. -/
def shr (j : ℕ) : PosShare TreeShare :=
  if j < 15 then fullShare
  else if j = 15 then fL.left else if j = 16 then fL.right.left else if j = 17 then fL.right.right
  else if j = 18 then fR.left else if j = 19 then fR.right.left else if j = 20 then fR.right.right
  else if j % 3 = 0 then fL else if j % 3 = 1 then fR.left else fR.right

/-- The chunk transfer `j` of a device reads, held at its value with the transfer's share. -/
def srcPts (c : Dev nD) (j : ℕ) : sProp 𝕄 := owns (c : Thread nD τ) (srcM (src c j)) (shr j) (tval m ρ (stag c (src c j)))
/-- A landing place held at the value that lands there; held at some contents. -/
def rPay (d : Dev nD) (x : Spot) : sProp 𝕄 := owns (d : Thread nD τ) (spotM x) fullShare (tval m ρ (rtag d x))
def anyP (d : Dev nD) (x : Spot) : sProp 𝕄 := iprop(∃ X, owns (d : Thread nD τ) (spotM x) fullShare X)
/-- What a device's `k`-th neighbour hands it at the barrier: the places on that neighbour the device will write to. -/
def barPay (c : Dev nD) (k : Fin 6) : sProp 𝕄 := bigSep ((Finset.range 30).filter fun j => pn j = k) fun j => anyP (nb c k) (dst c j)

instance srcPts_storable (c : Dev nD) (j : ℕ) : BI.Storable (upEmb : UEmb _ 𝕄) (srcPts (F := F) m ρ c j) := by unfold srcPts; infer_instance
instance rPay_storable (d : Dev nD) (x : Spot) : BI.Storable (upEmb : UEmb _ 𝕄) (rPay (F := F) m ρ d x) := by unfold rPay; infer_instance
omit [FloatOps F] in
instance anyP_storable (d : Dev nD) (x : Spot) : BI.Storable (upEmb : UEmb _ 𝕄) (anyP (F := F) d x) := by unfold anyP; infer_instance
omit [FloatOps F] in
instance barPay_storable (c : Dev nD) (k : Fin 6) : BI.Storable (upEmb : UEmb _ 𝕄) (barPay (F := F) c k) := by unfold barPay; infer_instance

/-! ## Cells -/

abbrev barCell (c : Dev nD) : GSem nD τ sig := ((c : Thread nD τ), .reg barS)
abbrev sCell (c : Dev nD) (j : ℕ) : GSem nD τ sig := ((c : Thread nD τ), .dma (sS j))
abbrev rCell (c : Dev nD) (x : Spot) : GSem nD τ sig := ((c : Thread nD τ), .dma (rS x))

/-- All cells of a device: the barrier and the sixty-six transfer semaphores. -/
def csem (k : Fin 67) : SemLoc sig := if k.val = 0 then .reg barS else .dma ⟨2 + k.val, show _ < 69 by omega⟩
abbrev kcell (ck : Dev nD × Fin 67) : GSem nD τ sig := ((ck.1 : Thread nD τ), csem ck.2)
def sIx (j : ℕ) : Fin 67 := ⟨j % 30 + 1, by omega⟩
def rIx (x : Spot) : Fin 67 := ⟨(rS x).val - 2, by have : (rS x).val < 69 := (rS x).isLt; omega⟩

theorem csem_bar : csem 0 = .reg barS := rfl
theorem csem_sIx (j : ℕ) : csem (sIx j) = .dma (sS j) := by
  refine (if_neg (show (sIx j).val ≠ 0 from Nat.succ_ne_zero _)).trans ?_
  exact congrArg SemLoc.dma (Fin.ext (show 2 + (j % 30 + 1) = 3 + j % 30 by omega))
theorem csem_rIx (x : Spot) : csem (rIx x) = .dma (rS x) := by
  have h := rS_ge x
  refine (if_neg (show (rIx x).val ≠ 0 from (by omega : (rS x).val - 2 ≠ 0))).trans ?_
  exact congrArg SemLoc.dma (Fin.ext (show 2 + ((rS x).val - 2) = (rS x).val by omega))

/-! ## The schedule -/

def sduties (d : Dev nD) : SemLoc sig → Finset (Fin 6)
  | .reg s => if s = barS then Finset.univ else ∅
  | .dma q => if 33 ≤ q.val then (if used d (spotOf q.val) then {0} else ∅) else if 3 ≤ q.val then {0} else ∅

def samount : SemLoc sig → ℕ
  | .reg _ => 1
  | .dma _ => N

def spay (d : Dev nD) (k : Fin 6) : SemLoc sig → sProp 𝕄
  | .reg _ => barPay d k
  | .dma q => if 33 ≤ q.val then rPay m ρ d (spotOf q.val) else srcPts m ρ d (q.val - 3)

/-- One round: the barrier's six duties of one unit; a send's, or a receive's that somebody sends to, one of a chunk. -/
def rd : Rounds.Schedule (GSem nD τ sig) (Fin 6) 𝕄 where
  duties g r := if r = 0 ∧ g.1.2 = .tc then sduties g.1.1 g.2 else ∅
  unitless _ := False
  amount g _ _ := samount g.2
  payload g _ k := spay m ρ g.1.1 k g.2
  amount_pos g _ _ _ := by
    rcases g.2 with s | q
    · exact Nat.one_pos
    · exact N_pos

instance spay_storable (d : Dev nD) (k : Fin 6) (sm : SemLoc sig) : BI.Storable (upEmb : UEmb _ 𝕄) (spay (F := F) m ρ d k sm) := by
  rcases sm with s | q
  · exact barPay_storable d k
  · show BI.Storable upEmb (if 33 ≤ q.val then rPay m ρ d (spotOf q.val) else srcPts m ρ d (q.val - 3))
    split <;> infer_instance
instance rd_payload_storable (g : GSem nD τ sig) (r : ℕ) (k : Fin 6) :
    BI.Storable (upEmb : UEmb _ 𝕄) ((rd (F := F) m ρ).payload g r k) := spay_storable m ρ g.1.1 k g.2

section Sched
variable (c : Dev nD)

omit [FloatOps F] in
theorem duties_tc [FloatOps F] (sm : SemLoc sig) : (rd (F := F) m ρ).duties ((c : Thread nD τ), sm) 0 = sduties c sm :=
  show (if (0 : ℕ) = 0 ∧ (c : Thread nD τ).2 = .tc then sduties c sm else ∅) = _ from if_pos ⟨rfl, rfl⟩
theorem duties_bar : (rd (F := F) m ρ).duties (barCell c) 0 = Finset.univ := by
  rw [duties_tc]; show (if barS = barS then (Finset.univ : Finset (Fin 6)) else ∅) = _; rw [if_pos rfl]
theorem duties_s (j : ℕ) : (rd (F := F) m ρ).duties (sCell c j) 0 = {0} := by
  rw [duties_tc]
  show (if 33 ≤ 3 + j % 30 then (if used c (spotOf (3 + j % 30)) then ({0} : Finset (Fin 6)) else ∅) else if 3 ≤ 3 + j % 30 then {0} else ∅) = _
  rw [if_neg (by omega), if_pos (by omega)]
theorem duties_r_eq (x : Spot) : (rd (F := F) m ρ).duties (rCell c x) 0 = if used c x then {0} else ∅ := by
  rw [duties_tc]
  show (if 33 ≤ (rS x).val then (if used c (spotOf (rS x).val) then ({0} : Finset (Fin 6)) else ∅) else if 3 ≤ (rS x).val then {0} else ∅) = _
  rw [if_pos (rS_ge x), spotOf_rS]
theorem duties_r {x : Spot} (h : used c x = true) : (rd (F := F) m ρ).duties (rCell c x) 0 = {0} := by
  rw [duties_r_eq, if_pos h]
theorem duties_later (g : GSem nD τ sig) : ∀ r, 1 ≤ r → (rd (F := F) m ρ).duties g r = ∅ :=
  fun r hr => if_neg fun h => by omega
theorem duties_unused {x : Spot} (h : used c x = false) : ∀ r, 0 ≤ r → (rd (F := F) m ρ).duties (rCell c x) r = ∅ := by
  rintro (_ | r) -
  · rw [duties_r_eq, h]; rfl
  · exact duties_later m ρ _ _ (Nat.succ_le_succ (Nat.zero_le r))

theorem expect_bar : (rd (F := F) m ρ).expect (barCell c) 0 = 6 := by
  unfold Schedule.expect Schedule.amountOf
  rw [duties_bar, Finset.sum_congr rfl fun (k : Fin 6) _ => (show (rd (F := F) m ρ).amount (barCell c) 0 k = 1 from rfl), Finset.sum_const]
  rfl
theorem expect_s (j : ℕ) : (rd (F := F) m ρ).expect (sCell c j) 0 = N := by
  unfold Schedule.expect Schedule.amountOf; rw [duties_s, Finset.sum_singleton]; rfl
theorem expect_r {x : Spot} (h : used c x = true) : (rd (F := F) m ρ).expect (rCell c x) 0 = N := by
  unfold Schedule.expect Schedule.amountOf; rw [duties_r m ρ c h, Finset.sum_singleton]; rfl

theorem payload_s {j : ℕ} (hj : j < 30) (k : Fin 6) : (rd (F := F) m ρ).payload (sCell c j) 0 k = srcPts m ρ c j := by
  show (if 33 ≤ (sS j).val then rPay m ρ c (spotOf (sS j).val) else srcPts m ρ c ((sS j).val - 3)) = _
  rw [sS_val hj, if_neg (by omega), Nat.add_sub_cancel_left]
theorem payload_r (x : Spot) (k : Fin 6) : (rd (F := F) m ρ).payload (rCell c x) 0 k = rPay m ρ c x := by
  show (if 33 ≤ (rS x).val then rPay m ρ c (spotOf (rS x).val) else srcPts m ρ c ((rS x).val - 3)) = _
  rw [if_pos (rS_ge x), spotOf_rS]

theorem rest_s {j : ℕ} (hj : j < 30) :
    bigSep ((rd (F := F) m ρ).duties (sCell c j) 0 \ ∅) (fun k => (rd (F := F) m ρ).payload (sCell c j) 0 k) = srcPts m ρ c j := by
  rw [Finset.sdiff_empty, duties_s, bigSep_singleton, payload_s m ρ c hj]
theorem rest_r {x : Spot} (h : used c x = true) :
    bigSep ((rd (F := F) m ρ).duties (rCell c x) 0 \ ∅) (fun k => (rd (F := F) m ρ).payload (rCell c x) 0 k) = rPay m ρ c x := by
  rw [Finset.sdiff_empty, duties_r m ρ c h, bigSep_singleton, payload_r]
/-- After the barrier a device holds every place it will write to. -/
theorem rest_bar :
    bigSep ((rd (F := F) m ρ).duties (barCell c) 0 \ ∅) (fun k => (rd (F := F) m ρ).payload (barCell c) 0 k)
      = bigSep (Finset.range 30) fun j => anyP (tgt c j) (dst c j) := by
  rw [Finset.sdiff_empty, duties_bar]
  show bigSep Finset.univ (fun k : Fin 6 => bigSep ((Finset.range 30).filter fun j => pn j = k) fun j => (anyP (nb c k) (dst c j) : sProp 𝕄)) = _
  have hu : (Finset.univ : Finset (Fin 6)).biUnion (fun k => (Finset.range 30).filter fun j => pn j = k) = Finset.range 30 := by
    ext j; simp
  refine Eq.trans ?_ (congrArg (fun s => bigSep s fun j => (anyP (tgt c j) (dst c j) : sProp 𝕄)) hu)
  refine Eq.trans (bigSep_congr fun k _ => bigSep_congr fun j hj => ?_) (bigSep_biUnion_eq _ _ _ ?_).symm
  · obtain ⟨h1, h2⟩ := Finset.mem_filter.mp hj
    rw [← h2, nb_pn c ⟨j, Finset.mem_range.mp h1⟩]
  · intro k _ k' _ hk
    exact Finset.disjoint_left.mpr fun j h1 h2 => hk ((Finset.mem_filter.mp h1).2.symm.trans (Finset.mem_filter.mp h2).2)

end Sched

/-! ## What a device owes -/

abbrev nbn (c : Dev nD) (k : ℕ) : Dev nD := nb c ⟨k % 6, Nat.mod_lt _ (by decide)⟩

/-- From its `k`-th transfer on, a device owes the chunks it has still to send; before its `k`-th signal it owes the
    signals still to be sent as well. -/
def owS (c : Dev nD) (k : ℕ) : CellTallies nD τ sig Unit := ∑ j ∈ Finset.Ico k 30, tallyAt (rCell (tgt c j) (dst c j)) () N
def owB (c : Dev nD) (k : ℕ) : CellTallies nD τ sig Unit := owS c 0 + ∑ i ∈ Finset.Ico k 6, tallyAt (barCell (nbn c i)) () 1

theorem Ico_head {k n : ℕ} (h : k < n) : Finset.Ico k n = insert k (Finset.Ico (k + 1) n) := by
  ext i; simp only [Finset.mem_Ico, Finset.mem_insert]; omega
theorem owS_step (c : Dev nD) {j : ℕ} (hj : j < 30) : owS c j = owS c (j + 1) + tallyAt (rCell (tgt c j) (dst c j)) () N := by
  unfold owS; rw [Ico_head hj, Finset.sum_insert (by simp), add_comm]
theorem owS_end (c : Dev nD) : owS c 30 = 0 := by unfold owS; rw [Finset.Ico_self, Finset.sum_empty]
theorem owB_step (c : Dev nD) {k : ℕ} (hk : k < 6) : owB c k = owB c (k + 1) + tallyAt (barCell (nbn c k)) () 1 := by
  unfold owB; rw [Ico_head hk, Finset.sum_insert (by simp), add_assoc, add_comm (tallyAt _ _ _)]
theorem owB_end (c : Dev nD) : owB c 6 = owS c 0 := by unfold owB; rw [Finset.Ico_self, Finset.sum_empty, add_zero]

theorem sum_tally_pos {I : Type} [DecidableEq I] {s : Finset I} {f : I → GSem nD τ sig} {n : ℕ} {g : GSem nD τ sig} {u : Unit}
    (h : 0 < (∑ i ∈ s, tallyAt (f i) () n : CellTallies nD τ sig Unit) g u) : ∃ i ∈ s, g = f i := by
  induction s using Finset.induction_on with
  | empty => exact absurd h (Nat.lt_irrefl 0)
  | insert a s ha ih =>
    rw [Finset.sum_insert ha, Pi.add_apply, Finsupp.add_apply, tallyAt_apply] at h
    by_cases hg : g = f a
    · exact ⟨a, Finset.mem_insert_self _ _, hg⟩
    · rw [if_neg fun h' => hg h'.1, Nat.zero_add] at h
      obtain ⟨i, hi, e⟩ := ih h
      exact ⟨i, Finset.mem_insert_of_mem hi, e⟩

theorem owS_pos {c : Dev nD} {k : ℕ} {g : GSem nD τ sig} {u : Unit} (h : 0 < owS c k g u) :
    ∃ j, k ≤ j ∧ j < 30 ∧ g = rCell (tgt c j) (dst c j) := by
  obtain ⟨j, hj, e⟩ := sum_tally_pos h
  exact ⟨j, (Finset.mem_Ico.mp hj).1, (Finset.mem_Ico.mp hj).2, e⟩
theorem owB_pos {c : Dev nD} {g : GSem nD τ sig} {u : Unit} (h : 0 < owB c 0 g u) :
    (∃ j, j < 30 ∧ g = rCell (tgt c j) (dst c j)) ∨ ∃ d, g = barCell d := by
  unfold owB at h
  rw [Pi.add_apply, Finsupp.add_apply] at h
  by_cases h1 : 0 < owS c 0 g u
  · obtain ⟨j, -, hj, e⟩ := owS_pos h1
    exact Or.inl ⟨j, hj, e⟩
  · rw [Nat.eq_zero_of_not_pos h1, Nat.zero_add] at h
    obtain ⟨i, -, e⟩ := sum_tally_pos h
    exact Or.inr ⟨_, e⟩

/-! ## Levels -/

def L (g : GSem nD τ sig) : Finset Unit := if g.1.2 = .tc then {()} else ∅
def slev (d : Dev nD) : SemLoc sig → ℕ
  | .reg _ => 1
  | .dma q => if 33 ≤ q.val then slv d (spotOf q.val) else 0
def lv (g : GSem nD τ sig) (_ : Unit) : ℕ := slev g.1.1 g.2

theorem L_of_ne (g : GSem nD τ sig) (h : g.1.2 ≠ .tc) : L g = ∅ := if_neg h
theorem L_tc (c : Dev nD) (sm : SemLoc sig) : L ((c : Thread nD τ), sm) = {()} := if_pos rfl
theorem lv_r (d : Dev nD) (x : Spot) : lv (rCell d x) () = slv d x := by
  show (if 33 ≤ (rS x).val then slv d (spotOf (rS x).val) else 0) = _
  rw [if_pos (rS_ge x), spotOf_rS]

omit [FloatOps F] in
/-- A wait at a level below everything owed. -/
theorem mayWait_lt (c : Dev nD) (sm : SemLoc sig) (O : CellTallies nD τ sig Unit)
    (hO : ∀ g u, 0 < O g u → g.1.2 = .tc ∧ slev c sm < lv g u) : (levAts L lv : sProp 𝕄) ⊢ MayWait (c : Thread nD τ) sm () O :=
  MayOwe.of_cut (L := L) (lev := lv) (slev c sm) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_refl _)
    (fun g u hg => (hO g u hg).2)

omit [FloatOps F] in
theorem mayWait_rcv (c : Dev nD) {i : ℕ} (hi : i < 30) :
    (levAts L lv : sProp 𝕄) ⊢ MayWait (c : Thread nD τ) (.dma (rS (rcv c i))) () (owS c (started i)) :=
  mayWait_lt c _ _ fun g u hg => by
    obtain ⟨j, h1, h2, rfl⟩ := owS_pos hg
    exact ⟨rfl, by rw [show slev c (.dma (rS (rcv c i))) = _ from lv_r c (rcv c i), lv_r]; exact slv_lt c ⟨i, hi⟩ ⟨j, h2⟩ h1⟩
omit [FloatOps F] in
theorem mayWait_bar (c : Dev nD) : (levAts L lv : sProp 𝕄) ⊢ MayWait (c : Thread nD τ) (.reg barS) () (owS c 0) :=
  mayWait_lt c _ _ fun g u hg => by
    obtain ⟨j, -, h2, rfl⟩ := owS_pos hg
    exact ⟨rfl, by rw [lv_r]; exact slv_ge c ⟨j, h2⟩⟩
omit [FloatOps F] in
theorem mayWait_none (c : Dev nD) (sm : SemLoc sig) : (levAts L lv : sProp 𝕄) ⊢ MayWait (c : Thread nD τ) sm () 0 := by
  rw [MayWait_zero]; iintro -; iempintro
omit [FloatOps F] in
theorem mayWait_stage (c : Dev nD) (q : DmaSem sig) (hq : q.val < 33) (O : CellTallies nD τ sig Unit) (hO : O = owB c 0 ∨ O = 0) :
    (levAts L lv : sProp 𝕄) ⊢ MayWait (c : Thread nD τ) (.dma q) () O := by
  rcases hO with rfl | rfl
  · refine mayWait_lt c _ _ fun g u hg => ?_
    have h0 : slev c (.dma q) = 0 := if_neg (by omega)
    rw [h0]
    rcases owB_pos hg with ⟨j, hj, rfl⟩ | ⟨d, rfl⟩
    · exact ⟨rfl, by rw [lv_r]; exact lt_of_lt_of_le (by decide : 0 < 2) (slv_ge c ⟨j, hj⟩)⟩
    · exact ⟨rfl, Nat.one_pos⟩
  · exact mayWait_none c _

end Cert.KernelIdeal.Prf

end
-- ==== Proof.KernelIdeal.Steps.lean ====
/-
# One rule per kind of step

What a device holds between two steps is one assertion, indexed by how many of its transfers are started, how many of its
receive waits are done and how many of its send waits are done. This module states it and proves, once for all transfers,
the step a signal takes, the barrier wait, a transfer, a receive wait and a send wait.
-/
module

public import proofs.«01_k».proof.Proof.KernelIdeal.Sched
public import Idealize.SL.BI.BigOpNat

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 67 → ℕ) (c : Dev nD)

/-! ## What a device holds -/

/-- Every cell's invariant, and that every cell has reached its round. -/
def records : sProp 𝕄 :=
  bigSep Finset.univ fun ck : Dev nD × Fin 67 => iprop(cellInv ER (rd m ρ) (K ck) (kcell ck) ∗ reached ER (kcell ck) 0)

instance records_persistent : BI.Persistent (records m ρ K) := by unfold records; infer_instance

theorem rec_at (d : Dev nD) (k : Fin 67) {sm : SemLoc sig} (h : csem k = sm) :
    records m ρ K ⊢ iprop(cellInv ER (rd m ρ) (K (d, k)) ((d : Thread nD τ), sm) ∗ reached ER ((d : Thread nD τ), sm) 0) := by
  subst h
  exact bigSep_elim (Finset.mem_univ (d, k))

/-- The tokens and the position transfer `j` needs; with its landing place; what is left of it once started; what receive
    wait `i` needs. -/
def sTok (j : ℕ) : sProp 𝕄 :=
  iprop(dutyTok ER (sCell c j) 0 0 ∗ dutyTok ER (rCell (tgt c j) (dst c j)) 0 0 ∗ atPos ER (sCell c j) 0 ∅ 0)
def sPend (j : ℕ) : sProp 𝕄 := iprop(anyP (tgt c j) (dst c j) ∗ sTok (F := F) c j)
def sSent (j : ℕ) : sProp 𝕄 := iprop(cred (tallyAt (sCell c j) () N) ∗ atPos ER (sCell c j) 0 ∅ 0)
def rPend (i : ℕ) : sProp 𝕄 := iprop(cred (tallyAt (rCell c (rcv c i)) () N) ∗ atPos ER (rCell c (rcv c i)) 0 ∅ 0)

/-- After the barrier: `a` transfers started, `b` receive waits and `e` send waits done. -/
def St (a b e : ℕ) : sProp 𝕄 :=
  iprop((records m ρ K ∗ levAts L lv) ∗ (∃ W, owes (c : Thread nD τ) (owS c a) W)
    ∗ (bigSep (Finset.Ico a 30) (sPend (F := F) c) ∗ bigSep (Finset.Ico e a) (sSent (F := F) c) ∗ bigSep (Finset.Ico b 30) (rPend (F := F) c))
    ∗ bigSep (Finset.range b) (fun i => semVal (rCell c (rcv c i)) 0) ∗ bigSep (Finset.range e) (fun j => semVal (sCell c j) 0)
    ∗ semVal (barCell c) 0)

def bTok (k : ℕ) : sProp 𝕄 :=
  iprop(dutyTok ER (barCell (nbn c k)) 0 (opp ⟨k % 6, Nat.mod_lt _ (by decide)⟩) ∗ barPay (F := F) (nbn c k) (opp ⟨k % 6, Nat.mod_lt _ (by decide)⟩))

/-- Before the barrier: `k` signals sent. -/
def StB (k : ℕ) : sProp 𝕄 :=
  iprop((records m ρ K ∗ levAts L lv) ∗ (∃ W, owes (c : Thread nD τ) (owB c k) W)
    ∗ bigSep (Finset.Ico k 6) (bTok (F := F) c)
    ∗ (cred (tallyAt (barCell c) () 6) ∗ atPos ER (barCell c) 0 ∅ 0)
    ∗ bigSep (Finset.Ico 0 30) (sTok (F := F) c) ∗ bigSep (Finset.Ico 0 30) (rPend (F := F) c))

/-! ## The steps -/

section Steps
variable {α : Type} {cont : PUnit.{1} → Prog (TpuEff nD τ sig (Elt F) Λ₀ .tc) α}

/-- A signal to the `k`-th neighbour hands it the places here that it will write to. -/
theorem step_sig {Q : α → sProp 𝕄} {k : ℕ} (hk : k < 6) {n : Dev nD} (hn : n = nbn c k) {k' : ℕ} (hk' : 1 = k') :
    StB m ρ K c k ⊢ iprop((StB m ρ K c (k + 1) -∗ wp frame (wpE (defs₀ (F := F)) 𝒱₀ (c : Thread nD τ) none) Set.univ (cont ⟨⟩) Q) -∗ wp frame (wpE (defs₀ (F := F)) 𝒱₀ (c : Thread nD τ) none) Set.univ (.op (.semSignal (n : Thread nD τ) barS k') cont) Q) := by
  subst hn hk'
  unfold StB
  rw [bigSep_Ico_succ_bot hk, owB_step c hk]
  iintro ⟨⟨#HR, #HL⟩, ⟨%W, HO⟩, HB, Hrest⟩ Hk
  icases HB with ⟨HT, HB⟩
  unfold bTok
  icases HT with ⟨Htok, Hpay⟩
  ihave #HI := (rec_at m ρ K (nbn c k) 0 csem_bar) $$ HR
  icases HI with ⟨#Hinv, #Hre⟩
  iapply (Rounds.wp_signal 𝒱₀ ER (rd m ρ) (c : Thread nD τ) none (dst := (nbn c k : Thread nD τ)) (κ := K (nbn c k, 0))
      (d := opp ⟨k % 6, Nat.mod_lt _ (by decide)⟩) (by rw [duties_bar]; exact Finset.mem_univ _) rfl () (owB c (k + 1)) rfl)
    $$ [HO Htok Hpay]
  · isplitr; · iexact Hinv
    isplitl [HO]; · iexact HO
    isplitl [Htok]; · iexact Htok
    isplitl [Hpay]
    · iapply (show barPay (F := F) (nbn c k) (opp ⟨k % 6, Nat.mod_lt _ (by decide)⟩)
        ⊢ (rd (F := F) m ρ).payload (barCell (nbn c k)) 0 (opp ⟨k % 6, Nat.mod_lt _ (by decide)⟩) from .rfl)
      iexact Hpay
    iexact Hre
  iintro HO
  iapply Hk
  isplitr
  · isplitr; · iexact HR
    iexact HL
  isplitl [HO]; · iexists W; iexact HO
  isplitl [HB]; · iexact HB
  iexact Hrest

/-- The barrier wait gathers the six neighbours' hand-overs: every place this device will write to. -/
theorem step_bar {Q : α → sProp 𝕄} {k' : ℕ} (hk' : 6 = k') :
    StB m ρ K c 6 ⊢ iprop((St m ρ K c 0 0 0 -∗ wp frame (wpE (defs₀ (F := F)) 𝒱₀ (c : Thread nD τ) none) Set.univ (cont ⟨⟩) Q) -∗ wp frame (wpE (defs₀ (F := F)) 𝒱₀ (c : Thread nD τ) none) Set.univ (.op (.semWait barS k') cont) Q) := by
  subst hk'
  unfold StB
  iintro ⟨⟨#HR, #HL⟩, ⟨%W, HO⟩, -, ⟨Hcr, Hat⟩, HT, HP⟩ Hk
  rw [owB_end]
  ihave #HI := (rec_at m ρ K c 0 csem_bar) $$ HR
  icases HI with ⟨#Hinv, -⟩
  iapply (Rounds.wp_wait_rest_token 𝒱₀ ER (rd m ρ) (c : Thread nD τ) none (κ := K (c, 0))
      (wpE_semWait_eq 𝒱₀ (c : Thread nD τ) none Set.univ) (Set.mem_univ _) () (O := owS c 0) (W := W) (R := 0) (m := 0) (T := ∅)
      (by rw [Nat.zero_add, expect_bar])) $$ [Hcr HO Hat]
  · isplitr; · iexact Hinv
    isplitl [Hcr]; · iexact Hcr
    isplitl [HO]; · iexact HO
    isplitr; · iapply (mayWait_bar c); iexact HL
    iexact Hat
  iintro ⟨HO, Hat, -, Hpay⟩
  ihave Hp := (Entails.of_eq (rest_bar m ρ c)) $$ Hpay
  imod (Rounds.cell_close ER (rd m ρ) (Set.mem_univ (K (c, 0))) (fun h => h) (R := 0 + 1) (duties_later m ρ (barCell c))) $$ [Hat] with Hz
  · isplitr; · iexact Hinv
    iexact Hat
  iapply Hk
  unfold St
  isplitr
  · isplitr; · iexact HR
    iexact HL
  isplitl [HO]; · iexists _; iexact HO
  isplitl [HT HP Hp]
  · isplitl [HT Hp]
    · rw [show sPend (F := F) c = fun j => iprop(anyP (tgt c j) (dst c j) ∗ sTok (F := F) c j) from rfl, bigSep_sep', ← Finset.range_eq_Ico]
      isplitl [Hp] <;> iassumption
    isplitr
    · rw [Finset.Ico_self, bigSep_empty]; iempintro
    iexact HP
  isplitr
  · rw [Finset.range_zero, bigSep_empty]; iempintro
  isplitr
  · rw [Finset.range_zero, bigSep_empty]; iempintro
  iexact Hz

/-- Transfer `j`: its chunk is lent out, its landing place handed to the receiver. -/
theorem step_snd {Q : α → sProp 𝕄} {j b : ℕ} (hj : j < 30) {sM dM : Memref sig .tc .vmem S48x768 .f32} {n : Dev nD} {s1 s2 : DmaSem sig}
    (hs : sM = srcM (src c j)) (hd : dM = spotM (dst c j)) (hn : n = tgt c j) (h1 : s1 = sS j) (h2 : s2 = rS (dst c j))
    {hsc : (dM : Memref sig (Dev.tc n : Thread nD τ).2.kind .vmem S48x768 .f32).view.ref.isScScratch = false}
    {hsrc : sM.view.WordExact} {hdst : dM.view.WordExact}
    {hsem : DmaTarget.Typed .vmem (.dma s2) (.remote (Dev.tc n : Thread nD τ) dM (.dma s1) hsc)} :
    iprop(St m ρ K c j b 0 ∗ srcPts m ρ c j)
      ⊢ iprop((St m ρ K c (j + 1) b 0 -∗ wp frame (wpE (defs₀ (F := F)) 𝒱₀ (c : Thread nD τ) none) Set.univ (cont ⟨⟩) Q)
        -∗ wp frame (wpE (defs₀ (F := F)) 𝒱₀ (c : Thread nD τ) none) Set.univ (.op (.enqueueDma sM (.remote (Dev.tc n : Thread nD τ) dM (.dma s1) hsc) (.dma s2) hsrc hdst hsem) cont) Q) := by
  subst hs hd hn h1 h2
  unfold St
  rw [bigSep_Ico_succ_bot hj, owS_step c hj, bigSep_Ico_succ_top (Nat.zero_le j)]
  iintro ⟨⟨⟨#HR, #HL⟩, ⟨%W, HO⟩, ⟨HS, HT, HP⟩, Hz⟩, Hsrc⟩ Hk
  icases HS with ⟨Hj, HS⟩
  unfold sPend sTok anyP
  icases Hj with ⟨⟨%X, Hdst⟩, Ht1, Ht2, Hat⟩
  ihave #HI1 := (rec_at m ρ K c (sIx j) (csem_sIx j)) $$ HR
  icases HI1 with ⟨#Hinv1, #Hre1⟩
  ihave #HI2 := (rec_at m ρ K (tgt c j) (rIx (dst c j)) (csem_rIx (dst c j))) $$ HR
  icases HI2 with ⟨#Hinv2, #Hre2⟩
  ihave Hd' := (show owns (tgt c j : Thread nD τ) (spotM (dst c j)) fullShare X
    ⊢ iprop(∃ f, ⌜(spotM (dst c j)).view.read (Elt F) f = X⌝ ∗ ((spotM (dst c j)).view.loc (tgt c j : Thread nD τ) ↦[(spotM (dst c j)).view.set]{fullShare} f)) from .rfl) $$ Hdst
  icases Hd' with ⟨%fd, -, Hdst⟩
  ihave Hs' := (show srcPts m ρ c j
    ⊢ iprop(∃ f, ⌜(srcM (src c j)).view.read (Elt F) f = tval m ρ (stag c (src c j))⌝ ∗ ((srcM (src c j)).view.loc (c : Thread nD τ) ↦[(srcM (src c j)).view.set]{shr j} f)) from .rfl) $$ Hsrc
  icases Hs' with ⟨%fs, %hfs, Hsrc⟩
  iapply (Rounds.wp_send_pointsTo 𝒱₀ ER (rd m ρ) (c : Thread nD τ) none (κ₁ := K (c, sIx j)) (κ₂ := K (tgt c j, rIx (dst c j)))
      (c' := (tgt c j : Thread nD τ)) (src := srcM (src c j)) (dst := spotM (dst c j)) (sS := .dma (sS j)) (sem := .dma (rS (dst c j)))
      (r₁ := 0) (r₂ := 0) (d₁ := 0) (d₂ := 0) (fd := fd) (fs := fs)
      (by rw [duties_s]; exact Finset.mem_singleton_self _)
      (by rw [duties_r m ρ (tgt c j) (used_dst c ⟨j, hj⟩)]; exact Finset.mem_singleton_self _)
      () () N (show (spotM (dst c j)).view.amount (.dma (rS (dst c j))) = N from credit_spot _) rfl rfl (owS c (j + 1)) rfl (W := W)
      (by rw [payload_s m ρ c hj]; unfold srcPts; rw [← hfs]; exact owns_intro (c : Thread nD τ) (srcM (src c j)) (shr j) fs)
      (by
        rw [payload_r]; unfold rPay
        rw [rtag_dst c ⟨j, hj⟩, ← hfs]
        refine (owns_intro (tgt c j : Thread nD τ) (spotM (dst c j)) fullShare _).trans (Entails.of_eq ?_)
        rw [View.read_write_univ])) $$ [Hsrc Hdst HO Ht1 Ht2]
  · isplitr; · iexact Hinv1
    isplitr; · iexact Hinv2
    isplitl [Hsrc]; · iexact Hsrc
    isplitl [Hdst]; · iexact Hdst
    isplitl [HO]; · iexact HO
    isplitl [Ht1]; · iexact Ht1
    isplitr; · iexact Hre1
    isplitl [Ht2]; · iexact Ht2
    iexact Hre2
  iintro ⟨Hcr, HO⟩
  iapply Hk
  isplitr
  · isplitr; · iexact HR
    iexact HL
  isplitl [HO]; · iexists W; iexact HO
  isplitl [HS HT HP Hcr Hat]
  · isplitl [HS]; · iexact HS
    isplitl [HT Hcr Hat]
    · isplitl [Hcr Hat]
      · unfold sSent
        isplitl [Hcr] <;> iassumption
      iexact HT
    iexact HP
  iexact Hz

/-- Receive wait `i`: the chunk that landed, at its value. -/
theorem step_rcv {Q : α → sProp 𝕄} {i : ℕ} (hi : i < 30) {sM dM : Memref sig .tc .vmem S48x768 .f32} {s : DmaSem sig}
    (hd : dM = spotM (rcv c i)) (h : s = rS (rcv c i)) {hsrc : sM.view.WordExact} {hdst : dM.view.WordExact} :
    St m ρ K c (started i) i 0
      ⊢ iprop((iprop(St m ρ K c (started i) (i + 1) 0 ∗ rPay m ρ c (rcv c i)) -∗ wp frame (wpE (defs₀ (F := F)) 𝒱₀ (c : Thread nD τ) none) Set.univ (cont ⟨⟩) Q)
        -∗ wp frame (wpE (defs₀ (F := F)) 𝒱₀ (c : Thread nD τ) none) Set.univ (.op (.waitDma2 s sM dM hsrc hdst) cont) Q) := by
  subst hd h
  unfold St
  rw [bigSep_Ico_succ_bot hi, bigSep_range_succ i]
  iintro ⟨⟨#HR, #HL⟩, ⟨%W, HO⟩, ⟨HS, HT, HP⟩, Hz, Hrest⟩ Hk
  icases HP with ⟨Hi, HP⟩
  unfold rPend
  icases Hi with ⟨Hcr, Hat⟩
  have hu := used_rcv c ⟨i, hi⟩
  ihave #HI := (rec_at m ρ K c (rIx (rcv c i)) (csem_rIx (rcv c i))) $$ HR
  icases HI with ⟨#Hinv, -⟩
  iapply (Rounds.wp_wait_rest_token 𝒱₀ ER (rd m ρ) (c : Thread nD τ) none (κ := K (c, rIx (rcv c i)))
      (wpE_waitDma2_eq 𝒱₀ (c : Thread nD τ) none Set.univ) (Set.mem_univ _) () (O := owS c (started i)) (W := W) (R := 0) (m := 0) (T := ∅)
      (by rw [Nat.zero_add, expect_r m ρ c hu, credit_spot])) $$ [Hcr HO Hat]
  · isplitr; · iexact Hinv
    isplitl [Hcr]; · rw [credit_spot]; iexact Hcr
    isplitl [HO]; · iexact HO
    isplitr; · iapply (mayWait_rcv c hi); iexact HL
    iexact Hat
  iintro ⟨HO, Hat, -, Hpay⟩
  ihave Hp := (Entails.of_eq (rest_r m ρ c hu)) $$ Hpay
  imod (Rounds.cell_close ER (rd m ρ) (Set.mem_univ (K (c, rIx (rcv c i)))) (fun h => h) (R := 0 + 1) (duties_later m ρ (rCell c (rcv c i)))) $$ [Hat] with Hz1
  · isplitr; · iexact Hinv
    iexact Hat
  iapply Hk
  isplitr [Hp]
  · isplitr
    · isplitr; · iexact HR
      iexact HL
    isplitl [HO]; · iexists _; iexact HO
    isplitl [HS HT HP]
    · isplitl [HS]; · iexact HS
      isplitl [HT] <;> iassumption
    isplitl [Hz Hz1]
    · isplitl [Hz1] <;> iassumption
    iexact Hrest
  iexact Hp

/-- Send wait `j`: the chunk the transfer read comes back. -/
theorem step_don {Q : α → sProp 𝕄} {j : ℕ} (hj : j < 30) {sM dM : Memref sig .tc .vmem S48x768 .f32} {s : DmaSem sig}
    (hd : dM.view.dmaCredit = N) (h : s = sS j) {hsrc : sM.view.WordExact} {hdst : dM.view.WordExact} :
    St m ρ K c 30 30 j
      ⊢ iprop((iprop(St m ρ K c 30 30 (j + 1) ∗ srcPts m ρ c j) -∗ wp frame (wpE (defs₀ (F := F)) 𝒱₀ (c : Thread nD τ) none) Set.univ (cont ⟨⟩) Q) -∗ wp frame (wpE (defs₀ (F := F)) 𝒱₀ (c : Thread nD τ) none) Set.univ (.op (.waitDma2 s sM dM hsrc hdst) cont) Q) := by
  subst h
  unfold St
  rw [bigSep_Ico_succ_bot hj, bigSep_range_succ j, owS_end]
  iintro ⟨⟨#HR, #HL⟩, ⟨%W, HO⟩, ⟨HS, HT, HP⟩, Hz, Hzs, Hzb⟩ Hk
  icases HT with ⟨Hj, HT⟩
  unfold sSent
  icases Hj with ⟨Hcr, Hat⟩
  ihave #HI := (rec_at m ρ K c (sIx j) (csem_sIx j)) $$ HR
  icases HI with ⟨#Hinv, -⟩
  iapply (Rounds.wp_wait_rest_token 𝒱₀ ER (rd m ρ) (c : Thread nD τ) none (κ := K (c, sIx j))
      (wpE_waitDma2_eq 𝒱₀ (c : Thread nD τ) none Set.univ) (Set.mem_univ _) () (O := 0) (W := W) (R := 0) (m := 0) (T := ∅)
      (by rw [Nat.zero_add, expect_s, hd])) $$ [Hcr HO Hat]
  · isplitr; · iexact Hinv
    isplitl [Hcr]; · rw [hd]; iexact Hcr
    isplitl [HO]; · iexact HO
    isplitr; · iapply (mayWait_none c); iexact HL
    iexact Hat
  iintro ⟨HO, Hat, -, Hpay⟩
  ihave Hp := (Entails.of_eq (rest_s m ρ c hj)) $$ Hpay
  imod (Rounds.cell_close ER (rd m ρ) (Set.mem_univ (K (c, sIx j))) (fun h => h) (R := 0 + 1) (duties_later m ρ (sCell c j))) $$ [Hat] with Hz1
  · isplitr; · iexact Hinv
    iexact Hat
  iapply Hk
  isplitr [Hp]
  · isplitr
    · isplitr; · iexact HR
      iexact HL
    isplitl [HO]; · iexists _; iexact HO
    isplitl [HS HT HP]
    · isplitl [HS]; · iexact HS
      isplitl [HT] <;> iassumption
    isplitl [Hz]; · iexact Hz
    isplitl [Hzs Hz1]
    · isplitl [Hz1] <;> iassumption
    iexact Hzb
  iexact Hp

end Steps

end Cert.KernelIdeal.Prf

end
-- ==== Proof.KernelIdeal.Ops.lean ====
/-
# The kernel's operations on its chunks

The rules of the steps, gathering what they leave: the chunks still to be sent, the chunks received and the chunks given
back, each as one conjunction. With them the loads and stores of a chunk, and the sums the kernel stores as the chunk sums of
the schedule.
-/
module

public import proofs.«01_k».proof.Proof.KernelIdeal.Steps
public import proofs.«01_k».proof.Proof.Gen.KernelIdeal.Points
public import Idealize.ShloMosaic.Lib.Pipeline.Value

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 67 → ℕ) (c : Dev nD)

/-! ## Sums -/

/-- A chunk as a slice of a landing buffer reads it. -/
def ldB (X : Chk F) : Vec F S1x48x768 .f32 := fun j => X ((Shape.reshapeEquiv squeezes_S1x48x768_S48x768.numel_eq).symm j)

omit [FloatOps F] in
theorem cast_ldB (X : Chk F) (h) : (shapeCast S48x768 (ldB X) h : FVec F S48x768 .f32) = X := by
  funext j
  show X ((Shape.reshapeEquiv _).symm (Shape.reshapeEquiv _ j)) = X j
  rw [Equiv.symm_apply_apply]

/-- The four sums over a plane and the sum over a column, as printed, are chunk sums. -/
theorem sum_1 (a x y z : Chk F) : k0_pay4 (k0_pay3 a (k0_pay2 (ldB x)) (ldB y)) (ldB z) = add3 a x y z := by
  unfold k0_pay4 k0_pay3 k0_pay2 add3; dsimp only; rw [cast_ldB, cast_ldB, cast_ldB, shapeCast_self]
theorem sum_2 (a x y z : Chk F) : k0_pay7 (k0_pay6 (k0_pay5 a (ldB x)) (ldB y)) (ldB z) = add3 a x y z := by
  unfold k0_pay7 k0_pay6 k0_pay5 add3; dsimp only; rw [cast_ldB, cast_ldB, cast_ldB, shapeCast_self]
theorem sum_3 (a x y z : Chk F) : k0_pay9 (k0_pay8 a (ldB x) (ldB y)) (ldB z) = add3 a x y z := by
  unfold k0_pay9 k0_pay8 add3; dsimp only; rw [cast_ldB, cast_ldB, cast_ldB, shapeCast_self]
theorem sum_4 (a x y z : Chk F) : k0_pay12 (k0_pay11 (k0_pay10 a (ldB x)) (ldB y)) (ldB z) = add3 a x y z := by
  unfold k0_pay12 k0_pay11 k0_pay10 add3; dsimp only; rw [cast_ldB, cast_ldB, cast_ldB, shapeCast_self]
theorem sum_5 (a x y z : Chk F) : k0_pay14 (k0_pay13 a (ldB x) (ldB y)) (ldB z) = add3 a x y z := by
  unfold k0_pay14 k0_pay13 add3; dsimp only; rw [cast_ldB, cast_ldB, cast_ldB]

/-! ## Whole buffers -/

theorem hz2 : (![0, 0] : Fin 2 → Nat) = fun _ => 0 := funext fun a => by fin_cases a <;> rfl

section Ops
variable {α : Type}

theorem op_ld_a {Q : α → sProp 𝕄} {i hl k} (f : (cc0_stg0_0 : Ref sig .tc).ty.Contents (Elt F)) :
    ((c : Thread nD τ).loc cc0_stg0_0 ↦{fullShare} f : sProp 𝕄)
      ⊢ iprop((((c : Thread nD τ).loc cc0_stg0_0 ↦{fullShare} f) -∗ wp frame (wpE (defs₀ (F := F)) 𝒱₀ (c : Thread nD τ) none) Set.univ (k f) Q)
        -∗ wp frame (wpE (defs₀ (F := F)) 𝒱₀ (c : Thread nD τ) none) Set.univ (.op (.load aW (Rect.unit (s := S768x384) ![0, 0] S768x384.size i).toLoadRect hl) k) Q) := by
  have e : (aW : Memref sig .tc .vmem S768x384 .f32).view.readAt (Elt F) (Rect.unit (s := S768x384) ![0, 0] S768x384.size i).toLoadRect f = f :=
    Memref.readAt_unit_zero (Elt F) cc0_stg0_0 hz2 _ f
  iintro H Hk
  iapply (wp_load 𝒱₀ (c : Thread nD τ) none Set.univ (m := aW) (Finset.subset_univ _)) $$ H
  iintro H
  rw [e]
  iapply Hk
  iexact H

theorem op_ld_b {Q : α → sProp 𝕄} {i hl k} (f : (cc0_stg1_0 : Ref sig .tc).ty.Contents (Elt F)) :
    ((c : Thread nD τ).loc cc0_stg1_0 ↦{fullShare} f : sProp 𝕄)
      ⊢ iprop((((c : Thread nD τ).loc cc0_stg1_0 ↦{fullShare} f) -∗ wp frame (wpE (defs₀ (F := F)) 𝒱₀ (c : Thread nD τ) none) Set.univ (k f) Q)
        -∗ wp frame (wpE (defs₀ (F := F)) 𝒱₀ (c : Thread nD τ) none) Set.univ (.op (.load bW (Rect.unit (s := S384x768) ![0, 0] S384x768.size i).toLoadRect hl) k) Q) := by
  have e : (bW : Memref sig .tc .vmem S384x768 .f32).view.readAt (Elt F) (Rect.unit (s := S384x768) ![0, 0] S384x768.size i).toLoadRect f = f :=
    Memref.readAt_unit_zero (Elt F) cc0_stg1_0 hz2 _ f
  iintro H Hk
  iapply (wp_load 𝒱₀ (c : Thread nD τ) none Set.univ (m := bW) (Finset.subset_univ _)) $$ H
  iintro H
  rw [e]
  iapply Hk
  iexact H

/-- The local product's buffer is overwritten whole. -/
theorem op_acc {Q : α → sProp 𝕄} {i hl i' hx hm k} (f w : (cc0_scratch0 : Ref sig .tc).ty.Contents (Elt F)) :
    ((c : Thread nD τ).loc cc0_scratch0 ↦{fullShare} f : sProp 𝕄)
      ⊢ iprop((((c : Thread nD τ).loc cc0_scratch0 ↦{fullShare} w) -∗ wp frame (wpE (defs₀ (F := F)) 𝒱₀ (c : Thread nD τ) none) Set.univ (k ⟨⟩) Q)
        -∗ wp frame (wpE (defs₀ (F := F)) 𝒱₀ (c : Thread nD τ) none) Set.univ (.op (.load accW (Rect.unit (s := S768x768) ![0, 0] S768x768.size i).toLoadRect hl) fun _ =>
            .op (.store accW (Rect.unit (s := S768x768) ![0, 0] S768x768.size i') w Finset.univ hx hm) k) Q) := by
  have e : (accW.access (Rect.unit (s := S768x768) ![0, 0] S768x768.size i') : View sig .tc _ _ _).write (Elt F) f w Finset.univ = w :=
    Memref.write_access_unit_zero_univ (Elt F) cc0_scratch0 hz2 _ f w
  iintro H Hk
  iapply (wp_load 𝒱₀ (c : Thread nD τ) none Set.univ (m := accW) (Finset.subset_univ _)) $$ H
  iintro H
  iapply (wp_store 𝒱₀ (c : Thread nD τ) none Set.univ (m := accW) (r := Rect.unit (s := S768x768) ![0, 0] S768x768.size i') (w := w) (Mk := Finset.univ) (Finset.subset_univ _)) $$ H
  iintro H
  rw [e]
  iapply Hk
  iexact H

/-! ## Chunks -/

theorem op_ld_ac {Q : α → sProp 𝕄} {p z : Fin 4} {off : Fin 2 → ℕ} (h : off = offC p z) {i hl k} (X : Chk F) :
    (owns (c : Thread nD τ) (srcM (.ac p z)) fullShare X : sProp 𝕄)
      ⊢ iprop((owns (c : Thread nD τ) (srcM (.ac p z)) fullShare X -∗ wp frame (wpE (defs₀ (F := F)) 𝒱₀ (c : Thread nD τ) none) Set.univ (k X) Q)
        -∗ wp frame (wpE (defs₀ (F := F)) 𝒱₀ (c : Thread nD τ) none) Set.univ (.op (.load accW (Rect.unit (s := S768x768) off S48x768.size i).toLoadRect hl) k) Q) :=
  wp_ld c accW h i (inbC p z) (fun _ => rfl) X

theorem op_ld_pr {Q : α → sProp 𝕄} {z : Fin 4} {off : Fin 2 → ℕ} (h : off = offR z) {i hl k} (X : Chk F) :
    (owns (c : Thread nD τ) (srcM (.pr z)) fullShare X : sProp 𝕄)
      ⊢ iprop((owns (c : Thread nD τ) (srcM (.pr z)) fullShare X -∗ wp frame (wpE (defs₀ (F := F)) 𝒱₀ (c : Thread nD τ) none) Set.univ (k X) Q)
        -∗ wp frame (wpE (defs₀ (F := F)) 𝒱₀ (c : Thread nD τ) none) Set.univ (.op (.load prW (Rect.unit (s := S192x768) off S48x768.size i).toLoadRect hl) k) Q) :=
  wp_ld c prW h i (inbR z) (fun _ => rfl) X

/-- A chunk of the plane sums, of the result, is overwritten. -/
theorem op_st_pr {Q : α → sProp 𝕄} {z : Fin 4} {off off' : Fin 2 → ℕ} (h : off = offR z) (h' : off' = offR z) {i hl i' hx hm k} {w w' : Chk F} (hw : w = w') :
    (iprop(∃ X, owns (c : Thread nD τ) (srcM (.pr z)) fullShare X) : sProp 𝕄)
      ⊢ iprop((owns (c : Thread nD τ) (srcM (.pr z)) fullShare w' -∗ wp frame (wpE (defs₀ (F := F)) 𝒱₀ (c : Thread nD τ) none) Set.univ (k ⟨⟩) Q)
        -∗ wp frame (wpE (defs₀ (F := F)) 𝒱₀ (c : Thread nD τ) none) Set.univ (.op (.load prW (Rect.unit (s := S192x768) off S48x768.size i).toLoadRect hl) fun _ =>
            .op (.store prW (Rect.unit (s := S192x768) off' S48x768.size i') w Finset.univ hx hm) k) Q) := by
  subst hw
  iintro H Hk
  ihave H := (show iprop(∃ X, owns (c : Thread nD τ) (srcM (.pr z)) fullShare X)
    ⊢ (iprop(∃ X, owns (c : Thread nD τ) (prW.slice (rectR z) (fun _ => rfl)) fullShare X) : sProp 𝕄) from .rfl) $$ H
  iapply (wp_ld_any c prW h i (inbR z) (fun _ => rfl)) $$ H
  iintro %Y H
  iapply (wp_st c prW h' i' (inbR z) (fun _ => rfl) w) $$ H
  iexact Hk

theorem op_st_ou {Q : α → sProp 𝕄} {p z : Fin 4} {off off' : Fin 2 → ℕ} (h : off = offC p z) (h' : off' = offC p z) {i hl i' hx hm k} {w w' : Chk F} (hw : w = w') :
    (iprop(∃ X, owns (c : Thread nD τ) (spotM (.ou p z)) fullShare X) : sProp 𝕄)
      ⊢ iprop((owns (c : Thread nD τ) (spotM (.ou p z)) fullShare w' -∗ wp frame (wpE (defs₀ (F := F)) 𝒱₀ (c : Thread nD τ) none) Set.univ (k ⟨⟩) Q)
        -∗ wp frame (wpE (defs₀ (F := F)) 𝒱₀ (c : Thread nD τ) none) Set.univ (.op (.load outW (Rect.unit (s := S768x768) off S48x768.size i).toLoadRect hl) fun _ =>
            .op (.store outW (Rect.unit (s := S768x768) off' S48x768.size i') w Finset.univ hx hm) k) Q) := by
  subst hw
  iintro H Hk
  ihave H := (show iprop(∃ X, owns (c : Thread nD τ) (spotM (.ou p z)) fullShare X)
    ⊢ (iprop(∃ X, owns (c : Thread nD τ) (outW.slice (rectC p z) (fun _ => rfl)) fullShare X) : sProp 𝕄) from .rfl) $$ H
  iapply (wp_ld_any c outW h i (inbC p z) (fun _ => rfl)) $$ H
  iintro %Y H
  iapply (wp_st c outW h' i' (inbC p z) (fun _ => rfl) w) $$ H
  iexact Hk

/-! ## Transfers and waits, gathering -/

/-- Transfer `j`, out of the chunks of transfers `j` to `n`. -/
theorem op_snd {Q : α → sProp 𝕄} {j b n' : ℕ} (hj : j < 30) (hn' : j < n') {cont : PUnit.{1} → Prog (TpuEff nD τ sig (Elt F) Λ₀ .tc) α}
    {sM dM : Memref sig .tc .vmem S48x768 .f32} {n : Dev nD} {s1 s2 : DmaSem sig}
    (hs : sM = srcM (src c j)) (hd : dM = spotM (dst c j)) (hn : n = tgt c j) (h1 : s1 = sS j) (h2 : s2 = rS (dst c j))
    {hsc : (dM : Memref sig (Dev.tc n : Thread nD τ).2.kind .vmem S48x768 .f32).view.ref.isScScratch = false}
    {hsrc : sM.view.WordExact} {hdst : dM.view.WordExact}
    {hsem : DmaTarget.Typed .vmem (.dma s2) (.remote (Dev.tc n : Thread nD τ) dM (.dma s1) hsc)} :
    iprop(St m ρ K c j b 0 ∗ bigSep (Finset.Ico j n') (srcPts m ρ c))
      ⊢ iprop((iprop(St m ρ K c (j + 1) b 0 ∗ bigSep (Finset.Ico (j + 1) n') (srcPts m ρ c)) -∗ wp frame (wpE (defs₀ (F := F)) 𝒱₀ (c : Thread nD τ) none) Set.univ (cont ⟨⟩) Q)
        -∗ wp frame (wpE (defs₀ (F := F)) 𝒱₀ (c : Thread nD τ) none) Set.univ (.op (.enqueueDma sM (.remote (Dev.tc n : Thread nD τ) dM (.dma s1) hsc) (.dma s2) hsrc hdst hsem) cont) Q) := by
  rw [bigSep_Ico_succ_bot hn']
  iintro ⟨HS, Hj, HR⟩ Hk
  iapply (step_snd m ρ K c hj hs hd hn h1 h2) $$ [HS Hj]
  · isplitl [HS] <;> iassumption
  iintro HS
  iapply Hk
  isplitl [HS] <;> iassumption

/-- A receive wait, the chunk received put with those received since wait `b`. -/
theorem op_rcv {Q : α → sProp 𝕄} {a b i : ℕ} (hi : i < 30) (hb : b ≤ i) (ha : a = started i) {cont : PUnit.{1} → Prog (TpuEff nD τ sig (Elt F) Λ₀ .tc) α}
    {sM dM : Memref sig .tc .vmem S48x768 .f32} {s : DmaSem sig}
    (hd : dM = spotM (rcv c i)) (h : s = rS (rcv c i)) {hsrc : sM.view.WordExact} {hdst : dM.view.WordExact} :
    iprop(St m ρ K c a i 0 ∗ bigSep (Finset.Ico b i) (fun i => rPay m ρ c (rcv c i)))
      ⊢ iprop((iprop(St m ρ K c a (i + 1) 0 ∗ bigSep (Finset.Ico b (i + 1)) (fun i => rPay m ρ c (rcv c i))) -∗ wp frame (wpE (defs₀ (F := F)) 𝒱₀ (c : Thread nD τ) none) Set.univ (cont ⟨⟩) Q)
        -∗ wp frame (wpE (defs₀ (F := F)) 𝒱₀ (c : Thread nD τ) none) Set.univ (.op (.waitDma2 s sM dM hsrc hdst) cont) Q) := by
  subst ha
  rw [bigSep_Ico_succ_top hb]
  iintro ⟨HS, HR⟩ Hk
  iapply (step_rcv m ρ K c hi hd h) $$ HS
  iintro ⟨HS, Hi⟩
  iapply Hk
  isplitl [HS]; · iexact HS
  isplitl [Hi] <;> iassumption

/-- A receive wait on a landing buffer and the load of the chunk received, kept with the others. -/
theorem op_get_pb {Q : α → sProp 𝕄} {a i : ℕ} {p zz : Fin 4} (hi : i < 30) (ha : a = started i) (hx : rcv c i = .pb p zz)
    {cont : Vec F S1x48x768 .f32 → Prog (TpuEff nD τ sig (Elt F) Λ₀ .tc) α}
    {sM dM : Memref sig .tc .vmem S48x768 .f32} {s : DmaSem sig} (hd : dM = spotM (.pb p zz)) (h : s = rS (.pb p zz))
    {off : Fin 3 → ℕ} (ho : off = offB p zz) {hsrc : sM.view.WordExact} {hdst : dM.view.WordExact} {i' hl} :
    iprop(St m ρ K c a i 0 ∗ bigSep (Finset.Ico 0 i) (fun i => rPay m ρ c (rcv c i)))
      ⊢ iprop((iprop(St m ρ K c a (i + 1) 0 ∗ bigSep (Finset.Ico 0 (i + 1)) (fun i => rPay m ρ c (rcv c i)))
            -∗ wp frame (wpE (defs₀ (F := F)) 𝒱₀ (c : Thread nD τ) none) Set.univ (cont (ldB (tval m ρ (rtag c (.pb p zz))))) Q)
        -∗ wp frame (wpE (defs₀ (F := F)) 𝒱₀ (c : Thread nD τ) none) Set.univ (.op (.waitDma2 s sM dM hsrc hdst) fun _ =>
            .op (.load pbW (Rect.unit (s := S4x192x768) off S1x48x768.size i').toLoadRect hl) cont) Q) := by
  subst ha
  rw [bigSep_Ico_succ_top (Nat.zero_le i), hx]
  iintro ⟨HS, HR⟩ Hk
  iapply (step_rcv m ρ K c hi (hd.trans (congrArg spotM hx.symm)) (h.trans (congrArg rS hx.symm))) $$ HS
  iintro ⟨HS, Hi⟩
  rw [hx]
  ihave Hi := (show rPay m ρ c (.pb p zz) ⊢ owns (c : Thread nD τ) ((pbW.slice (rectB p zz) (fun _ => rfl)).squeeze S48x768 squeezes_S1x48x768_S48x768)
    fullShare (tval m ρ (rtag c (.pb p zz))) from .rfl) $$ Hi
  iapply (wp_ld_sq c pbW ho i' (inbB p zz) (fun _ => rfl) squeezes_S1x48x768_S48x768 _) $$ Hi
  iintro Hi
  iapply Hk
  isplitl [HS]; · iexact HS
  isplitl [Hi]
  · iapply (show owns (c : Thread nD τ) ((pbW.slice (rectB p zz) (fun _ => rfl)).squeeze S48x768 squeezes_S1x48x768_S48x768) fullShare (tval m ρ (rtag c (.pb p zz)))
      ⊢ rPay m ρ c (.pb p zz) from .rfl)
    iexact Hi
  iexact HR

theorem op_get_zb {Q : α → sProp 𝕄} {a i : ℕ} {z : Fin 4} (hi : i < 30) (ha : a = started i) (hx : rcv c i = .zb z)
    {cont : Vec F S1x48x768 .f32 → Prog (TpuEff nD τ sig (Elt F) Λ₀ .tc) α}
    {sM dM : Memref sig .tc .vmem S48x768 .f32} {s : DmaSem sig} (hd : dM = spotM (.zb z)) (h : s = rS (.zb z))
    {off : Fin 3 → ℕ} (ho : off = offZ z) {hsrc : sM.view.WordExact} {hdst : dM.view.WordExact} {i' hl} :
    iprop(St m ρ K c a i 0 ∗ bigSep (Finset.Ico 0 i) (fun i => rPay m ρ c (rcv c i)))
      ⊢ iprop((iprop(St m ρ K c a (i + 1) 0 ∗ bigSep (Finset.Ico 0 (i + 1)) (fun i => rPay m ρ c (rcv c i)))
            -∗ wp frame (wpE (defs₀ (F := F)) 𝒱₀ (c : Thread nD τ) none) Set.univ (cont (ldB (tval m ρ (rtag c (.zb z))))) Q)
        -∗ wp frame (wpE (defs₀ (F := F)) 𝒱₀ (c : Thread nD τ) none) Set.univ (.op (.waitDma2 s sM dM hsrc hdst) fun _ =>
            .op (.load zbW (Rect.unit (s := S4x48x768) off S1x48x768.size i').toLoadRect hl) cont) Q) := by
  subst ha
  rw [bigSep_Ico_succ_top (Nat.zero_le i), hx]
  iintro ⟨HS, HR⟩ Hk
  iapply (step_rcv m ρ K c hi (hd.trans (congrArg spotM hx.symm)) (h.trans (congrArg rS hx.symm))) $$ HS
  iintro ⟨HS, Hi⟩
  rw [hx]
  ihave Hi := (show rPay m ρ c (.zb z) ⊢ owns (c : Thread nD τ) ((zbW.slice (rectZ z) (fun _ => rfl)).squeeze S48x768 squeezes_S1x48x768_S48x768)
    fullShare (tval m ρ (rtag c (.zb z))) from .rfl) $$ Hi
  iapply (wp_ld_sq c zbW ho i' (inbZ z) (fun _ => rfl) squeezes_S1x48x768_S48x768 _) $$ Hi
  iintro Hi
  iapply Hk
  isplitl [HS]; · iexact HS
  isplitl [Hi]
  · iapply (show owns (c : Thread nD τ) ((zbW.slice (rectZ z) (fun _ => rfl)).squeeze S48x768 squeezes_S1x48x768_S48x768) fullShare (tval m ρ (rtag c (.zb z)))
      ⊢ rPay m ρ c (.zb z) from .rfl)
    iexact Hi
  iexact HR

/-- A send wait, the chunk given back put with the others. -/
theorem op_don {Q : α → sProp 𝕄} {j : ℕ} (hj : j < 30) {cont : PUnit.{1} → Prog (TpuEff nD τ sig (Elt F) Λ₀ .tc) α}
    {sM dM : Memref sig .tc .vmem S48x768 .f32} {s : DmaSem sig}
    (h : s = sS j) {hsrc : sM.view.WordExact} {hdst : dM.view.WordExact} :
    iprop(St m ρ K c 30 30 j ∗ bigSep (Finset.range j) (srcPts m ρ c))
      ⊢ iprop((iprop(St m ρ K c 30 30 (j + 1) ∗ bigSep (Finset.range (j + 1)) (srcPts m ρ c)) -∗ wp frame (wpE (defs₀ (F := F)) 𝒱₀ (c : Thread nD τ) none) Set.univ (cont ⟨⟩) Q)
        -∗ wp frame (wpE (defs₀ (F := F)) 𝒱₀ (c : Thread nD τ) none) Set.univ (.op (.waitDma2 s sM dM hsrc hdst) cont) Q) := by
  rw [bigSep_range_succ j]
  iintro ⟨HS, HR⟩ Hk
  iapply (step_don m ρ K c hj (credit_any dM) h) $$ HS
  iintro ⟨HS, Hj⟩
  iapply Hk
  isplitl [HS]; · iexact HS
  isplitl [Hj] <;> iassumption

end Ops

end Cert.KernelIdeal.Prf

end
-- ==== Proof.KernelIdeal.Body.lean ====
/-
# The kernel's run on one device

The body of the kernel, one rule per operation in program order, on an arbitrary device of the mesh.
-/
module

public import proofs.«01_k».proof.Proof.KernelIdeal.Ops
public import Idealize.ShloMosaic.Lib.MemrefSat
public import proofs.«01_k».proof.Proof.Gen.KernelIdeal.Points
public import Idealize.ShloMosaic.Lib.Pipeline.Value

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 67 → ℕ) (c : Dev nD)

/-! ## Rearranging -/

omit [FloatOps F] in
/-- A conjunction over a finite type along a list of its elements. -/
theorem bigSep_re {T : Type} [Fintype T] [DecidableEq T] (n : ℕ) (f : ℕ → T) (hu : (Finset.range n).image f = Finset.univ)
    (hc : Fintype.card T = n) (Φ : T → sProp 𝕄) : bigSep Finset.univ Φ = bigSep (Finset.range n) fun i => Φ (f i) := by
  rw [← hu]
  exact bigSep_image_of_injOn (Finset.card_image_iff.mp (by rw [hu, Finset.card_univ, hc, Finset.card_range])) Φ

omit [FloatOps F] in
theorem sep_asc (P R T : sProp 𝕄) : (iprop((P ∗ R) ∗ T) : sProp 𝕄) = iprop(P ∗ R ∗ T) :=
  BI.equiv_iff.mp ⟨BI.sep_assoc, BI.sep_assoc'⟩
theorem pair_snd (j b n : ℕ) : iprop(St m ρ K c j b 0 ∗ bigSep (Finset.Ico j n) (srcPts m ρ c))
    ⊢ iprop(St m ρ K c j b 0 ∗ bigSep (Finset.Ico j n) (srcPts m ρ c)) := .rfl
theorem pair_rcv (a b i : ℕ) : iprop(St m ρ K c a i 0 ∗ bigSep (Finset.Ico b i) (fun i => rPay m ρ c (rcv c i)))
    ⊢ iprop(St m ρ K c a i 0 ∗ bigSep (Finset.Ico b i) (fun i => rPay m ρ c (rcv c i))) := .rfl
omit [FloatOps F] in
theorem pair_emp_intro (P : sProp 𝕄) (Φ : ℕ → sProp 𝕄) (n : ℕ) : P ⊢ iprop(P ∗ bigSep (Finset.Ico n n) Φ) := by
  rw [Finset.Ico_self, bigSep_empty]
  exact (sep_emp (PROP := sProp 𝕄)).2
omit [FloatOps F] in
theorem pair_range_intro (P : sProp 𝕄) (Φ : ℕ → sProp 𝕄) : P ⊢ iprop(P ∗ bigSep (Finset.range 0) Φ) := by
  rw [Finset.range_zero, bigSep_empty]
  exact (sep_emp (PROP := sProp 𝕄)).2
theorem pair_one_intro {j b : ℕ} {z : Fin 4} (hj : j < 15) (hs : src c j = .pr z) :
    iprop(St m ρ K c j b 0 ∗ owns (c : Thread nD τ) (srcM (.pr z)) fullShare (prv m ρ c z))
      ⊢ iprop(St m ρ K c j b 0 ∗ bigSep (Finset.Ico j (j + 1)) (srcPts m ρ c)) := by
  rw [bigSep_Ico_one]
  unfold srcPts
  rw [hs, show shr j = fullShare from if_pos hj]
  exact .rfl

theorem pr_zero : (owns (c : Thread nD τ) (srcM (.pr (zc c + 0))) fullShare (prv m ρ c (zc c + 0)) : sProp 𝕄)
    ⊢ owns (c : Thread nD τ) (srcM (.pr (zc c))) fullShare (prv m ρ c (zc c)) := by
  have e : ∀ z : Fin 4, z + 0 = z := by decide
  rw [e]

/-- The chunks of the local product: twelve to send, four to keep. -/
def accIx (p z : Fin 4) (j : ℕ) : Fin 4 × Fin 4 :=
  if j < 12 then (p + ofs j, z + zof j) else (p, z + ⟨(j + 1) % 4, Nat.mod_lt _ (by decide)⟩)
theorem accIx_univ : ∀ p z : Fin 4, (Finset.range 16).image (accIx p z) = Finset.univ := by decide +kernel
def prIx (z : Fin 4) (j : ℕ) : Fin 4 := z + ⟨j % 4, Nat.mod_lt _ (by decide)⟩
theorem prIx_univ : ∀ z : Fin 4, (Finset.range 4).image (prIx z) = Finset.univ := by decide +kernel

/-- A kept chunk. -/
abbrev ownAc (a : Fin 4) : sProp 𝕄 := owns (c : Thread nD τ) (srcM (.ac (pc c) (zc c + a))) fullShare (aval m ρ c (pc c) (zc c + a))

theorem acc_chunks_eq :
    ((c : Thread nD τ).loc cc0_scratch0 ↦{fullShare} mval m ρ c : sProp 𝕄)
      = iprop(ownAc m ρ c 0 ∗ ownAc m ρ c 3 ∗ ownAc m ρ c 2 ∗ ownAc m ρ c 1 ∗ bigSep (Finset.Ico 0 12) (srcPts m ρ c)) := by
  have h : ((c : Thread nD τ).loc cc0_scratch0 ↦{fullShare} mval m ρ c : sProp 𝕄)
      = bigSep (Finset.univ : Finset (Fin 4 × Fin 4)) fun t => owns (c : Thread nD τ) (srcM (.ac t.1 t.2)) fullShare (aval m ρ c t.1 t.2) := by
    refine BI.equiv_iff.mp ⟨?_, ?_⟩
    · refine (Entails.of_eq (owns_whole (c : Thread nD τ) cc0_scratch0 fullShare (mval m ρ c)).symm).trans ?_
      exact owns_rects (c : Thread nD τ) accW fullShare (fun t : Fin 4 × Fin 4 => rectC t.1 t.2) (fun _ _ => rfl) disjC covC (mval m ρ c)
    · refine BIBase.Entails.trans ?_ (Entails.of_eq (owns_whole (c : Thread nD τ) cc0_scratch0 fullShare (mval m ρ c)))
      exact owns_of_rects (c : Thread nD τ) accW fullShare (fun t : Fin 4 × Fin 4 => rectC t.1 t.2) (fun _ _ => rfl) disjC covC (mval m ρ c)
  rw [h, bigSep_re 16 (accIx (pc c) (zc c)) (accIx_univ _ _) (by decide), bigSep_range_succ 15, bigSep_range_succ 14, bigSep_range_succ 13, bigSep_range_succ 12,
    Finset.range_eq_Ico]
  have e : bigSep (Finset.Ico 0 12) (fun i => (owns (c : Thread nD τ) (srcM (.ac (accIx (pc c) (zc c) i).1 (accIx (pc c) (zc c) i).2)) fullShare
      (aval m ρ c (accIx (pc c) (zc c) i).1 (accIx (pc c) (zc c) i).2) : sProp 𝕄)) = bigSep (Finset.Ico 0 12) (srcPts m ρ c) := by
    refine bigSep_congr fun i hi => ?_
    have h12 : i < 12 := (Finset.mem_Ico.mp hi).2
    have e1 : accIx (pc c) (zc c) i = (pc c + ofs i, zc c + zof i) := if_pos h12
    have e2 : src c i = .ac (pc c + ofs i) (zc c + zof i) := if_pos h12
    have e3 : shr i = fullShare := if_pos (by omega)
    rw [e1]
    unfold srcPts
    rw [e2, e3]
    rfl
  rw [e]
  rfl

theorem acc_chunks :
    ((c : Thread nD τ).loc cc0_scratch0 ↦{fullShare} mval m ρ c : sProp 𝕄)
      ⊢ iprop(ownAc m ρ c 0 ∗ ownAc m ρ c 3 ∗ ownAc m ρ c 2 ∗ ownAc m ρ c 1 ∗ bigSep (Finset.Ico 0 12) (srcPts m ρ c)) :=
  Entails.of_eq (acc_chunks_eq m ρ c)

omit [FloatOps F] in
/-- The chunks of the plane sums. -/
theorem pr_chunks (Φ : Fin 4 → sProp 𝕄) :
    bigSep Finset.univ Φ = iprop(Φ (zc c + 3) ∗ Φ (zc c + 2) ∗ Φ (zc c + 1) ∗ Φ (zc c + 0)) := by
  rw [bigSep_re 4 (prIx (zc c)) (prIx_univ _) (by decide), bigSep_range_succ 3, bigSep_range_succ 2, bigSep_range_succ 1, Finset.range_one, bigSep_singleton]
  rfl

omit [FloatOps F] in
theorem halves (mM : Memref sig .tc .vmem S48x768 .f32) (q : PosShare TreeShare) (X : Chk F) :
    (owns (c : Thread nD τ) mM q X : sProp 𝕄) = iprop(owns (c : Thread nD τ) mM q.left X ∗ owns (c : Thread nD τ) mM q.right X) :=
  BI.equiv_iff.mp ⟨(owns_halves (c : Thread nD τ) mM q X).1, (owns_halves (c : Thread nD τ) mM q X).2⟩

/-- The result's own chunk is read by six transfers, a neighbour's by three. -/
theorem own_split :
    (owns (c : Thread nD τ) (spotM (.ou (pc c) (zc c))) fullShare (red m ρ c) : sProp 𝕄) = bigSep (Finset.Ico 15 21) (srcPts m ρ c) := by
  have e : ∀ (q : PosShare TreeShare), (owns (c : Thread nD τ) (srcM (.ou (pc c) (zc c))) q (red m ρ (dv (pc c) (zc c))) : sProp 𝕄)
      = owns (c : Thread nD τ) (spotM (.ou (pc c) (zc c))) q (red m ρ c) := fun q => by rw [dv_pc_zc]; rfl
  rw [bigSep_Ico_succ_bot (by decide), bigSep_Ico_succ_bot (by decide), bigSep_Ico_succ_bot (by decide), bigSep_Ico_succ_bot (by decide),
    bigSep_Ico_succ_bot (by decide), bigSep_Ico_one]
  have h (j : ℕ) (h1 : 15 ≤ j) (h2 : j < 21) : srcPts m ρ c j = owns (c : Thread nD τ) (spotM (.ou (pc c) (zc c))) (shr j) (red m ρ c) := by
    rw [← e]
    unfold srcPts
    rw [show src c j = .ou (pc c) (zc c) by unfold src; rw [if_neg (by omega), if_neg (by omega), if_pos h2]]
    rfl
  rw [h 15 (by decide) (by decide), h (15 + 1) (by decide) (by decide), h (15 + 1 + 1) (by decide) (by decide), h (15 + 1 + 1 + 1) (by decide) (by decide),
    h (15 + 1 + 1 + 1 + 1) (by decide) (by decide), h (15 + 1 + 1 + 1 + 1 + 1) (by decide) (by decide)]
  rw [halves c _ fullShare, halves c _ fL, halves c _ fR, halves c _ fL.right, halves c _ fR.right, sep_asc, sep_asc]
  rfl

theorem fwd_split {k : ℕ} (hk : k < 3) :
    bigSep (Finset.Ico (15 + k) (15 + k + 1)) (fun i => rPay m ρ c (rcv c i)) = bigSep (Finset.Ico (21 + 3 * k) (21 + 3 * k + 1 + 1 + 1)) (srcPts m ρ c) := by
  rw [bigSep_Ico_one, bigSep_Ico_succ_bot (by omega), bigSep_Ico_succ_bot (by omega), bigSep_Ico_one]
  have hr : rcv c (15 + k) = .ou (pc c) (zc c - ofs (15 + k)) := by
    unfold rcv; rw [if_neg (by omega), if_neg (by omega), if_pos (by omega)]
  have h (j : ℕ) (h1 : 21 ≤ j) (hz : zof (j - 21) = ofs (15 + k)) : srcPts m ρ c j
      = owns (c : Thread nD τ) (spotM (.ou (pc c) (zc c - ofs (15 + k)))) (shr j) (red m ρ (dv (pc c) (zc c - ofs (15 + k)))) := by
    unfold srcPts
    rw [show src c j = .ou (pc c) (zc c - zof (j - 21)) by unfold src; rw [if_neg (by omega), if_neg (by omega), if_neg (by omega)], hz]
    rfl
  have hz (e : ℕ) (he : e < 3) : zof (21 + 3 * k + e - 21) = ofs (15 + k) := by
    exact (by decide : ∀ k e : Fin 3, zof (21 + 3 * k.val + e.val - 21) = ofs (15 + k.val)) ⟨k, hk⟩ ⟨e, he⟩
  rw [h (21 + 3 * k) (by omega) (hz 0 (by decide)), h (21 + 3 * k + 1) (by omega) (hz 1 (by decide)), h (21 + 3 * k + 1 + 1) (by omega) (hz 2 (by decide))]
  unfold rPay
  rw [hr]
  have s (e : ℕ) (he : e < 3) : shr (21 + 3 * k + e) = if e = 0 then fL else if e = 1 then fR.left else fR.right := by
    unfold shr
    rw [if_neg (by omega), if_neg (by omega), if_neg (by omega), if_neg (by omega), if_neg (by omega), if_neg (by omega), if_neg (by omega),
      show (21 + 3 * k + e) % 3 = e by omega]
  rw [show 21 + 3 * k + 1 + 1 = 21 + 3 * k + 2 from rfl, show shr (21 + 3 * k) = fL from s 0 (by decide), s 1 (by decide), s 2 (by decide)]
  rw [halves c _ fullShare, halves c _ fR]
  rfl

/-! ## The sums stored are the schedule's -/

theorem prv_sum (a : Fin 4) : add3 (aval m ρ c (pc c) (zc c + a)) (tval m ρ (rtag c (.pb (pc c - 1) (zc c + a)))) (tval m ρ (rtag c (.pb (pc c - 2) (zc c + a))))
    (tval m ρ (rtag c (.pb (pc c - 3) (zc c + a)))) = prv m ρ c (zc c + a) := rfl
theorem red_sum : add3 (prv m ρ c (zc c)) (tval m ρ (rtag c (.zb (zc c - 1)))) (tval m ρ (rtag c (.zb (zc c - 2))))
    (tval m ρ (rtag c (.zb (zc c - 3)))) = red m ρ c := rfl

/-! ## The run -/

/-- What the run starts from and what it leaves. -/
def BodyIn : sProp 𝕄 :=
  iprop(StB m ρ K c 0 ∗ ((c : Thread nD τ).loc cc0_stg0_0 ↦{fullShare} astg m ρ c) ∗ ((c : Thread nD τ).loc cc0_stg1_0 ↦{fullShare} bstg m ρ c)
    ∗ (∃ f, (c : Thread nD τ).loc cc0_scratch0 ↦{fullShare} f)
    ∗ bigSep Finset.univ (fun z : Fin 4 => iprop(∃ X, owns (c : Thread nD τ) (srcM (.pr z)) fullShare X))
    ∗ anyP c (.ou (pc c) (zc c)))
def BodyOut : sProp 𝕄 :=
  iprop(St m ρ K c 30 30 30 ∗ ((c : Thread nD τ).loc cc0_stg0_0 ↦{fullShare} astg m ρ c) ∗ ((c : Thread nD τ).loc cc0_stg1_0 ↦{fullShare} bstg m ρ c)
    ∗ (ownAc m ρ c 0 ∗ ownAc m ρ c 3 ∗ ownAc m ρ c 2 ∗ ownAc m ρ c 1) ∗ owns (c : Thread nD τ) (srcM (.pr (zc c))) fullShare (prv m ρ c (zc c))
    ∗ bigSep (Finset.Ico 0 15) (fun i => rPay m ρ c (rcv c i)) ∗ bigSep (Finset.Ico 18 30) (fun i => rPay m ρ c (rcv c i))
    ∗ bigSep (Finset.range 30) (srcPts m ρ c))

set_option sl_open_parts.maxParts 100 in
set_option maxHeartbeats 8000000 in
set_option maxRecDepth 20000 in
/-- The kernel body on device `c`. -/
theorem run_body (Q : PUnit → sProp 𝕄) :
    iprop(BodyIn m ρ K c ∗ (BodyOut m ρ K c -∗ Q ⟨⟩))
      ⊢ wp frame (wpE (defs₀ (F := F)) 𝒱₀ (c : Thread nD τ) none) Set.univ
          (cc0_body aW (Memref.isWhole_whole _) bW (Memref.isWhole_whole _) outW (Memref.isWhole_whole _) accW (Memref.isWhole_whole _)
            prW (Memref.isWhole_whole _) pbW (Memref.isWhole_whole _) zbW (Memref.isWhole_whole _) cc0_scratch4 cc0_scratch5 cc0_scratch6 cc0_scratch7) Q := by
  simp only [cc0_body_eq_skeleton]
  unfold cc0_body_skel
  sl_open_parts
  simp only [semSignalWord, semWaitWord, Prog.lift, Prog.bind_op, Prog.bind_ret, Prog.pure_eq_ret, wp_deviceId]
  unfold BodyIn
  rw [pr_chunks c]
  unfold anyP
  iintro ⟨⟨HS, Ha, Hb, ⟨%f, Hacc⟩, ⟨HP3, HP2, HP1, HP0⟩, Hou⟩, Hk⟩
  iapply (step_sig m ρ K c (k := 0) (by decide) (dev1_eq c) rfl) $$ HS; iintro HS
  iapply (step_sig m ρ K c (k := 1) (by decide) (dev2_eq c) rfl) $$ HS; iintro HS
  iapply (step_sig m ρ K c (k := 2) (by decide) (dev3_eq c) rfl) $$ HS; iintro HS
  iapply (step_sig m ρ K c (k := 3) (by decide) (dev4_eq c) rfl) $$ HS; iintro HS
  iapply (step_sig m ρ K c (k := 4) (by decide) (dev5_eq c) rfl) $$ HS; iintro HS
  iapply (step_sig m ρ K c (k := 5) (by decide) (dev6_eq c) rfl) $$ HS; iintro HS
  iapply (step_bar m ρ K c rfl) $$ HS; iintro HS
  -- the local product
  iapply (op_ld_a c (astg m ρ c)) $$ Ha; iintro Ha
  iapply (op_ld_b c (bstg m ρ c)) $$ Hb; iintro Hb
  iapply (op_acc c f (mval m ρ c)) $$ Hacc; iintro Hacc
  ihave Hacc := (acc_chunks m ρ c) $$ Hacc
  icases Hacc with ⟨HA0, HA3, HA2, HA1, HC⟩
  ihave HS := (pair_snd m ρ K c 0 0 12) $$ [HS HC]
  · isplitl [HS] <;> iassumption
  -- each plane neighbour's rows of it
  iapply (op_snd m ρ K c (j := 0) (b := 0) (n' := 12) (by decide) (by decide) (acc_slice _ _ (off3_eq c 1 1) _ _) (pb_slice _ _ (off2_eq c 1) _ _) (dev7_eq c) (send_sem 0 _) (pb_sem _ _ (off1_eq c 1) _)) $$ HS; iintro HS
  iapply (op_snd m ρ K c (j := 1) (b := 0) (n' := 12) (by decide) (by decide) (acc_slice _ _ (off3_eq c 2 1) _ _) (pb_slice _ _ (off2_eq c 1) _ _) (dev8_eq c) (send_sem 1 _) (pb_sem _ _ (off1_eq c 1) _)) $$ HS; iintro HS
  iapply (op_snd m ρ K c (j := 2) (b := 0) (n' := 12) (by decide) (by decide) (acc_slice _ _ (off3_eq c 3 1) _ _) (pb_slice _ _ (off2_eq c 1) _ _) (dev9_eq c) (send_sem 2 _) (pb_sem _ _ (off1_eq c 1) _)) $$ HS; iintro HS
  iapply (op_snd m ρ K c (j := 3) (b := 0) (n' := 12) (by decide) (by decide) (acc_slice _ _ (off3_eq c 1 2) _ _) (pb_slice _ _ (off2_eq c 2) _ _) (dev10_eq c) (send_sem 3 _) (pb_sem _ _ (off1_eq c 2) _)) $$ HS; iintro HS
  iapply (op_snd m ρ K c (j := 4) (b := 0) (n' := 12) (by decide) (by decide) (acc_slice _ _ (off3_eq c 2 2) _ _) (pb_slice _ _ (off2_eq c 2) _ _) (dev11_eq c) (send_sem 4 _) (pb_sem _ _ (off1_eq c 2) _)) $$ HS; iintro HS
  iapply (op_snd m ρ K c (j := 5) (b := 0) (n' := 12) (by decide) (by decide) (acc_slice _ _ (off3_eq c 3 2) _ _) (pb_slice _ _ (off2_eq c 2) _ _) (dev12_eq c) (send_sem 5 _) (pb_sem _ _ (off1_eq c 2) _)) $$ HS; iintro HS
  iapply (op_snd m ρ K c (j := 6) (b := 0) (n' := 12) (by decide) (by decide) (acc_slice _ _ (off3_eq c 1 3) _ _) (pb_slice _ _ (off2_eq c 3) _ _) (dev13_eq c) (send_sem 6 _) (pb_sem _ _ (off1_eq c 3) _)) $$ HS; iintro HS
  iapply (op_snd m ρ K c (j := 7) (b := 0) (n' := 12) (by decide) (by decide) (acc_slice _ _ (off3_eq c 2 3) _ _) (pb_slice _ _ (off2_eq c 3) _ _) (dev14_eq c) (send_sem 7 _) (pb_sem _ _ (off1_eq c 3) _)) $$ HS; iintro HS
  iapply (op_snd m ρ K c (j := 8) (b := 0) (n' := 12) (by decide) (by decide) (acc_slice _ _ (off3_eq c 3 3) _ _) (pb_slice _ _ (off2_eq c 3) _ _) (dev15_eq c) (send_sem 8 _) (pb_sem _ _ (off1_eq c 3) _)) $$ HS; iintro HS
  iapply (op_snd m ρ K c (j := 9) (b := 0) (n' := 12) (by decide) (by decide) (acc_slice _ _ (off3_eq c 1 0) _ _) (pb_slice _ _ (off2_eq c 0) _ _) (dev16_eq c) (send_sem 9 _) (pb_sem _ _ (off1_eq c 0) _)) $$ HS; iintro HS
  iapply (op_snd m ρ K c (j := 10) (b := 0) (n' := 12) (by decide) (by decide) (acc_slice _ _ (off3_eq c 2 0) _ _) (pb_slice _ _ (off2_eq c 0) _ _) (dev17_eq c) (send_sem 10 _) (pb_sem _ _ (off1_eq c 0) _)) $$ HS; iintro HS
  iapply (op_snd m ρ K c (j := 11) (b := 0) (n' := 12) (by decide) (by decide) (acc_slice _ _ (off3_eq c 3 0) _ _) (pb_slice _ _ (off2_eq c 0) _ _) (dev18_eq c) (send_sem 11 _) (pb_sem _ _ (off1_eq c 0) _)) $$ HS; iintro HS
  icases HS with ⟨HS, -⟩
  ihave HS := (pair_emp_intro _ (fun i => rPay m ρ c (rcv c i)) 0) $$ HS
  -- the plane sums, the first three passed on along the column
  iapply (op_ld_ac c (off4_eq c 1) _) $$ HA1; iintro HA1
  iapply (op_get_pb m ρ K c (a := 12) (i := 0) (by decide) rfl rfl (pb_slice _ _ (off6_eq c 1 1) _ _) (pb_sem _ _ (off5_eq c 1 1) _) (off7_eq c 1 1)) $$ HS; iintro HS
  iapply (op_get_pb m ρ K c (a := 12) (i := 1) (by decide) rfl rfl (pb_slice _ _ (off6_eq c 2 1) _ _) (pb_sem _ _ (off5_eq c 2 1) _) (off7_eq c 2 1)) $$ HS; iintro HS
  iapply (op_get_pb m ρ K c (a := 12) (i := 2) (by decide) rfl rfl (pb_slice _ _ (off6_eq c 3 1) _ _) (pb_sem _ _ (off5_eq c 3 1) _) (off7_eq c 3 1)) $$ HS; iintro HS
  iapply (op_st_pr c (off8_eq c 1) (off8_eq c 1) ((sum_1 _ _ _ _).trans (prv_sum m ρ c 1))) $$ HP1; iintro HP1
  icases HS with ⟨HS, HR⟩
  ihave HS := (pair_one_intro m ρ K c (b := 3) (j := 12) (z := zc c + 1) (by decide) rfl) $$ [HS HP1]
  · isplitl [HS] <;> iassumption
  iapply (op_snd m ρ K c (j := 12) (b := 3) (n' := 13) (by decide) (by decide) (pr_slice _ (off11_eq c 1) _ _) (zb_slice _ (off10_eq c) _ _) (dev19_eq c) (send_sem 12 _) (zb_sem _ (off9_eq c) _)) $$ HS; iintro HS
  icases HS with ⟨HS, -⟩
  ihave HS := (pair_rcv m ρ K c 13 0 3) $$ [HS HR]
  · isplitl [HS] <;> iassumption
  iapply (op_ld_ac c (off4_eq c 2) _) $$ HA2; iintro HA2
  iapply (op_get_pb m ρ K c (a := 13) (i := 3) (by decide) rfl rfl (pb_slice _ _ (off6_eq c 1 2) _ _) (pb_sem _ _ (off5_eq c 1 2) _) (off7_eq c 1 2)) $$ HS; iintro HS
  iapply (op_get_pb m ρ K c (a := 13) (i := 4) (by decide) rfl rfl (pb_slice _ _ (off6_eq c 2 2) _ _) (pb_sem _ _ (off5_eq c 2 2) _) (off7_eq c 2 2)) $$ HS; iintro HS
  iapply (op_get_pb m ρ K c (a := 13) (i := 5) (by decide) rfl rfl (pb_slice _ _ (off6_eq c 3 2) _ _) (pb_sem _ _ (off5_eq c 3 2) _) (off7_eq c 3 2)) $$ HS; iintro HS
  iapply (op_st_pr c (off8_eq c 2) (off8_eq c 2) ((sum_2 _ _ _ _).trans (prv_sum m ρ c 2))) $$ HP2; iintro HP2
  icases HS with ⟨HS, HR⟩
  ihave HS := (pair_one_intro m ρ K c (b := 6) (j := 13) (z := zc c + 2) (by decide) rfl) $$ [HS HP2]
  · isplitl [HS] <;> iassumption
  iapply (op_snd m ρ K c (j := 13) (b := 6) (n' := 14) (by decide) (by decide) (pr_slice _ (off11_eq c 2) _ _) (zb_slice _ (off10_eq c) _ _) (dev20_eq c) (send_sem 13 _) (zb_sem _ (off9_eq c) _)) $$ HS; iintro HS
  icases HS with ⟨HS, -⟩
  ihave HS := (pair_rcv m ρ K c 14 0 6) $$ [HS HR]
  · isplitl [HS] <;> iassumption
  iapply (op_ld_ac c (off4_eq c 3) _) $$ HA3; iintro HA3
  iapply (op_get_pb m ρ K c (a := 14) (i := 6) (by decide) rfl rfl (pb_slice _ _ (off6_eq c 1 3) _ _) (pb_sem _ _ (off5_eq c 1 3) _) (off7_eq c 1 3)) $$ HS; iintro HS
  iapply (op_get_pb m ρ K c (a := 14) (i := 7) (by decide) rfl rfl (pb_slice _ _ (off6_eq c 2 3) _ _) (pb_sem _ _ (off5_eq c 2 3) _) (off7_eq c 2 3)) $$ HS; iintro HS
  iapply (op_get_pb m ρ K c (a := 14) (i := 8) (by decide) rfl rfl (pb_slice _ _ (off6_eq c 3 3) _ _) (pb_sem _ _ (off5_eq c 3 3) _) (off7_eq c 3 3)) $$ HS; iintro HS
  iapply (op_st_pr c (off8_eq c 3) (off8_eq c 3) ((sum_3 _ _ _ _).trans (prv_sum m ρ c 3))) $$ HP3; iintro HP3
  icases HS with ⟨HS, HR⟩
  ihave HS := (pair_one_intro m ρ K c (b := 9) (j := 14) (z := zc c + 3) (by decide) rfl) $$ [HS HP3]
  · isplitl [HS] <;> iassumption
  iapply (op_snd m ρ K c (j := 14) (b := 9) (n' := 15) (by decide) (by decide) (pr_slice _ (off11_eq c 3) _ _) (zb_slice _ (off10_eq c) _ _) (dev21_eq c) (send_sem 14 _) (zb_sem _ (off9_eq c) _)) $$ HS; iintro HS
  icases HS with ⟨HS, -⟩
  ihave HS := (pair_rcv m ρ K c 15 0 9) $$ [HS HR]
  · isplitl [HS] <;> iassumption
  iapply (op_ld_ac c (off4_eq c 0) _) $$ HA0; iintro HA0
  iapply (op_get_pb m ρ K c (a := 15) (i := 9) (by decide) rfl rfl (pb_slice _ _ (off6_eq c 1 0) _ _) (pb_sem _ _ (off5_eq c 1 0) _) (off7_eq c 1 0)) $$ HS; iintro HS
  iapply (op_get_pb m ρ K c (a := 15) (i := 10) (by decide) rfl rfl (pb_slice _ _ (off6_eq c 2 0) _ _) (pb_sem _ _ (off5_eq c 2 0) _) (off7_eq c 2 0)) $$ HS; iintro HS
  iapply (op_get_pb m ρ K c (a := 15) (i := 11) (by decide) rfl rfl (pb_slice _ _ (off6_eq c 3 0) _ _) (pb_sem _ _ (off5_eq c 3 0) _) (off7_eq c 3 0)) $$ HS; iintro HS
  iapply (op_st_pr c (off8_eq c 0) (off8_eq c 0) ((sum_4 _ _ _ _).trans (prv_sum m ρ c 0))) $$ HP0; iintro HP0
  -- the column sum
  ihave HP0 := (pr_zero m ρ c) $$ HP0
  iapply (op_ld_pr c (off12_eq c) _) $$ HP0; iintro HP0
  iapply (op_get_zb m ρ K c (a := 15) (i := 12) (by decide) rfl rfl (zb_slice _ (off14_eq c 1) _ _) (zb_sem _ (off13_eq c 1) _) (off15_eq c 1)) $$ HS; iintro HS
  iapply (op_get_zb m ρ K c (a := 15) (i := 13) (by decide) rfl rfl (zb_slice _ (off14_eq c 2) _ _) (zb_sem _ (off13_eq c 2) _) (off15_eq c 2)) $$ HS; iintro HS
  iapply (op_get_zb m ρ K c (a := 15) (i := 14) (by decide) rfl rfl (zb_slice _ (off14_eq c 3) _ _) (zb_sem _ (off13_eq c 3) _) (off15_eq c 3)) $$ HS; iintro HS
  iapply (op_st_ou c (off16_eq c) (off16_eq c) ((sum_5 _ _ _ _).trans (red_sum m ρ c))) $$ Hou; iintro Hou
  icases HS with ⟨HS, HR⟩
  ihave Hou := (Entails.of_eq (own_split m ρ c)) $$ Hou
  ihave HS := (pair_snd m ρ K c 15 15 21) $$ [HS Hou]
  · isplitl [HS] <;> iassumption
  -- the result's chunk to every neighbour
  iapply (op_snd m ρ K c (j := 15) (b := 15) (n' := 21) (by decide) (by decide) (out_slice _ _ (off18_eq c) _ _) (out_slice _ _ (off18_eq c) _ _) (dev22_eq c) (send_sem 15 _) (ou_sem _ _ (off17_eq c) _)) $$ HS; iintro HS
  iapply (op_snd m ρ K c (j := 16) (b := 15) (n' := 21) (by decide) (by decide) (out_slice _ _ (off18_eq c) _ _) (out_slice _ _ (off18_eq c) _ _) (dev23_eq c) (send_sem 16 _) (ou_sem _ _ (off17_eq c) _)) $$ HS; iintro HS
  iapply (op_snd m ρ K c (j := 17) (b := 15) (n' := 21) (by decide) (by decide) (out_slice _ _ (off18_eq c) _ _) (out_slice _ _ (off18_eq c) _ _) (dev24_eq c) (send_sem 17 _) (ou_sem _ _ (off17_eq c) _)) $$ HS; iintro HS
  iapply (op_snd m ρ K c (j := 18) (b := 15) (n' := 21) (by decide) (by decide) (out_slice _ _ (off18_eq c) _ _) (out_slice _ _ (off18_eq c) _ _) (dev25_eq c) (send_sem 18 _) (ou_sem _ _ (off17_eq c) _)) $$ HS; iintro HS
  iapply (op_snd m ρ K c (j := 19) (b := 15) (n' := 21) (by decide) (by decide) (out_slice _ _ (off18_eq c) _ _) (out_slice _ _ (off18_eq c) _ _) (dev26_eq c) (send_sem 19 _) (ou_sem _ _ (off17_eq c) _)) $$ HS; iintro HS
  iapply (op_snd m ρ K c (j := 20) (b := 15) (n' := 21) (by decide) (by decide) (out_slice _ _ (off18_eq c) _ _) (out_slice _ _ (off18_eq c) _ _) (dev27_eq c) (send_sem 20 _) (ou_sem _ _ (off17_eq c) _)) $$ HS; iintro HS
  icases HS with ⟨HS, -⟩
  -- the column neighbours' chunks, each passed on through the plane
  ihave HS := (pair_emp_intro _ (fun i => rPay m ρ c (rcv c i)) 15) $$ HS
  iapply (op_rcv m ρ K c (a := 21) (b := 15) (i := 15) (by decide) (by decide) rfl (out_slice _ _ (off20_eq c 1) _ _) (ou_sem _ _ (off19_eq c 1) _)) $$ HS; iintro HS
  icases HS with ⟨HS, HF⟩
  ihave HF := (Entails.of_eq (fwd_split m ρ c (k := 0) (by decide))) $$ HF
  ihave HS := (pair_snd m ρ K c 21 16 24) $$ [HS HF]
  · isplitl [HS] <;> iassumption
  iapply (op_snd m ρ K c (j := 21) (b := 16) (n' := 24) (by decide) (by decide) (out_slice _ _ (off20_eq c 1) _ _) (out_slice _ _ (off20_eq c 1) _ _) (dev28_eq c) (send_sem 21 _) (ou_sem _ _ (off19_eq c 1) _)) $$ HS; iintro HS
  iapply (op_snd m ρ K c (j := 22) (b := 16) (n' := 24) (by decide) (by decide) (out_slice _ _ (off20_eq c 1) _ _) (out_slice _ _ (off20_eq c 1) _ _) (dev29_eq c) (send_sem 22 _) (ou_sem _ _ (off19_eq c 1) _)) $$ HS; iintro HS
  iapply (op_snd m ρ K c (j := 23) (b := 16) (n' := 24) (by decide) (by decide) (out_slice _ _ (off20_eq c 1) _ _) (out_slice _ _ (off20_eq c 1) _ _) (dev30_eq c) (send_sem 23 _) (ou_sem _ _ (off19_eq c 1) _)) $$ HS; iintro HS
  icases HS with ⟨HS, -⟩
  ihave HS := (pair_emp_intro _ (fun i => rPay m ρ c (rcv c i)) 16) $$ HS
  iapply (op_rcv m ρ K c (a := 24) (b := 16) (i := 16) (by decide) (by decide) rfl (out_slice _ _ (off20_eq c 2) _ _) (ou_sem _ _ (off19_eq c 2) _)) $$ HS; iintro HS
  icases HS with ⟨HS, HF⟩
  ihave HF := (Entails.of_eq (fwd_split m ρ c (k := 1) (by decide))) $$ HF
  ihave HS := (pair_snd m ρ K c 24 17 27) $$ [HS HF]
  · isplitl [HS] <;> iassumption
  iapply (op_snd m ρ K c (j := 24) (b := 17) (n' := 27) (by decide) (by decide) (out_slice _ _ (off20_eq c 2) _ _) (out_slice _ _ (off20_eq c 2) _ _) (dev31_eq c) (send_sem 24 _) (ou_sem _ _ (off19_eq c 2) _)) $$ HS; iintro HS
  iapply (op_snd m ρ K c (j := 25) (b := 17) (n' := 27) (by decide) (by decide) (out_slice _ _ (off20_eq c 2) _ _) (out_slice _ _ (off20_eq c 2) _ _) (dev32_eq c) (send_sem 25 _) (ou_sem _ _ (off19_eq c 2) _)) $$ HS; iintro HS
  iapply (op_snd m ρ K c (j := 26) (b := 17) (n' := 27) (by decide) (by decide) (out_slice _ _ (off20_eq c 2) _ _) (out_slice _ _ (off20_eq c 2) _ _) (dev33_eq c) (send_sem 26 _) (ou_sem _ _ (off19_eq c 2) _)) $$ HS; iintro HS
  icases HS with ⟨HS, -⟩
  ihave HS := (pair_emp_intro _ (fun i => rPay m ρ c (rcv c i)) 17) $$ HS
  iapply (op_rcv m ρ K c (a := 27) (b := 17) (i := 17) (by decide) (by decide) rfl (out_slice _ _ (off20_eq c 3) _ _) (ou_sem _ _ (off19_eq c 3) _)) $$ HS; iintro HS
  icases HS with ⟨HS, HF⟩
  ihave HF := (Entails.of_eq (fwd_split m ρ c (k := 2) (by decide))) $$ HF
  ihave HS := (pair_snd m ρ K c 27 18 30) $$ [HS HF]
  · isplitl [HS] <;> iassumption
  iapply (op_snd m ρ K c (j := 27) (b := 18) (n' := 30) (by decide) (by decide) (out_slice _ _ (off20_eq c 3) _ _) (out_slice _ _ (off20_eq c 3) _ _) (dev34_eq c) (send_sem 27 _) (ou_sem _ _ (off19_eq c 3) _)) $$ HS; iintro HS
  iapply (op_snd m ρ K c (j := 28) (b := 18) (n' := 30) (by decide) (by decide) (out_slice _ _ (off20_eq c 3) _ _) (out_slice _ _ (off20_eq c 3) _ _) (dev35_eq c) (send_sem 28 _) (ou_sem _ _ (off19_eq c 3) _)) $$ HS; iintro HS
  iapply (op_snd m ρ K c (j := 29) (b := 18) (n' := 30) (by decide) (by decide) (out_slice _ _ (off20_eq c 3) _ _) (out_slice _ _ (off20_eq c 3) _ _) (dev36_eq c) (send_sem 29 _) (ou_sem _ _ (off19_eq c 3) _)) $$ HS; iintro HS
  icases HS with ⟨HS, -⟩
  -- the rest of the result
  ihave HS := (pair_emp_intro _ (fun i => rPay m ρ c (rcv c i)) 18) $$ HS
  iapply (op_rcv m ρ K c (a := 30) (b := 18) (i := 18) (by decide) (by decide) rfl (out_slice _ _ (off22_eq c 1 0) _ _) (ou_sem _ _ (off21_eq c 1 0) _)) $$ HS; iintro HS
  iapply (op_rcv m ρ K c (a := 30) (b := 18) (i := 19) (by decide) (by decide) rfl (out_slice _ _ (off22_eq c 1 1) _ _) (ou_sem _ _ (off21_eq c 1 1) _)) $$ HS; iintro HS
  iapply (op_rcv m ρ K c (a := 30) (b := 18) (i := 20) (by decide) (by decide) rfl (out_slice _ _ (off22_eq c 1 2) _ _) (ou_sem _ _ (off21_eq c 1 2) _)) $$ HS; iintro HS
  iapply (op_rcv m ρ K c (a := 30) (b := 18) (i := 21) (by decide) (by decide) rfl (out_slice _ _ (off22_eq c 1 3) _ _) (ou_sem _ _ (off21_eq c 1 3) _)) $$ HS; iintro HS
  iapply (op_rcv m ρ K c (a := 30) (b := 18) (i := 22) (by decide) (by decide) rfl (out_slice _ _ (off22_eq c 2 0) _ _) (ou_sem _ _ (off21_eq c 2 0) _)) $$ HS; iintro HS
  iapply (op_rcv m ρ K c (a := 30) (b := 18) (i := 23) (by decide) (by decide) rfl (out_slice _ _ (off22_eq c 2 1) _ _) (ou_sem _ _ (off21_eq c 2 1) _)) $$ HS; iintro HS
  iapply (op_rcv m ρ K c (a := 30) (b := 18) (i := 24) (by decide) (by decide) rfl (out_slice _ _ (off22_eq c 2 2) _ _) (ou_sem _ _ (off21_eq c 2 2) _)) $$ HS; iintro HS
  iapply (op_rcv m ρ K c (a := 30) (b := 18) (i := 25) (by decide) (by decide) rfl (out_slice _ _ (off22_eq c 2 3) _ _) (ou_sem _ _ (off21_eq c 2 3) _)) $$ HS; iintro HS
  iapply (op_rcv m ρ K c (a := 30) (b := 18) (i := 26) (by decide) (by decide) rfl (out_slice _ _ (off22_eq c 3 0) _ _) (ou_sem _ _ (off21_eq c 3 0) _)) $$ HS; iintro HS
  iapply (op_rcv m ρ K c (a := 30) (b := 18) (i := 27) (by decide) (by decide) rfl (out_slice _ _ (off22_eq c 3 1) _ _) (ou_sem _ _ (off21_eq c 3 1) _)) $$ HS; iintro HS
  iapply (op_rcv m ρ K c (a := 30) (b := 18) (i := 28) (by decide) (by decide) rfl (out_slice _ _ (off22_eq c 3 2) _ _) (ou_sem _ _ (off21_eq c 3 2) _)) $$ HS; iintro HS
  iapply (op_rcv m ρ K c (a := 30) (b := 18) (i := 29) (by decide) (by decide) rfl (out_slice _ _ (off22_eq c 3 3) _ _) (ou_sem _ _ (off21_eq c 3 3) _)) $$ HS; iintro HS
  icases HS with ⟨HS, HG⟩
  -- every chunk read comes back
  ihave HS := (pair_range_intro _ (srcPts m ρ c)) $$ HS
  iapply (op_don m ρ K c (j := 0) (by decide) (send_sem 0 _)) $$ HS; iintro HS
  iapply (op_don m ρ K c (j := 1) (by decide) (send_sem 1 _)) $$ HS; iintro HS
  iapply (op_don m ρ K c (j := 2) (by decide) (send_sem 2 _)) $$ HS; iintro HS
  iapply (op_don m ρ K c (j := 3) (by decide) (send_sem 3 _)) $$ HS; iintro HS
  iapply (op_don m ρ K c (j := 4) (by decide) (send_sem 4 _)) $$ HS; iintro HS
  iapply (op_don m ρ K c (j := 5) (by decide) (send_sem 5 _)) $$ HS; iintro HS
  iapply (op_don m ρ K c (j := 6) (by decide) (send_sem 6 _)) $$ HS; iintro HS
  iapply (op_don m ρ K c (j := 7) (by decide) (send_sem 7 _)) $$ HS; iintro HS
  iapply (op_don m ρ K c (j := 8) (by decide) (send_sem 8 _)) $$ HS; iintro HS
  iapply (op_don m ρ K c (j := 9) (by decide) (send_sem 9 _)) $$ HS; iintro HS
  iapply (op_don m ρ K c (j := 10) (by decide) (send_sem 10 _)) $$ HS; iintro HS
  iapply (op_don m ρ K c (j := 11) (by decide) (send_sem 11 _)) $$ HS; iintro HS
  iapply (op_don m ρ K c (j := 12) (by decide) (send_sem 12 _)) $$ HS; iintro HS
  iapply (op_don m ρ K c (j := 13) (by decide) (send_sem 13 _)) $$ HS; iintro HS
  iapply (op_don m ρ K c (j := 14) (by decide) (send_sem 14 _)) $$ HS; iintro HS
  iapply (op_don m ρ K c (j := 15) (by decide) (send_sem 15 _)) $$ HS; iintro HS
  iapply (op_don m ρ K c (j := 16) (by decide) (send_sem 16 _)) $$ HS; iintro HS
  iapply (op_don m ρ K c (j := 17) (by decide) (send_sem 17 _)) $$ HS; iintro HS
  iapply (op_don m ρ K c (j := 18) (by decide) (send_sem 18 _)) $$ HS; iintro HS
  iapply (op_don m ρ K c (j := 19) (by decide) (send_sem 19 _)) $$ HS; iintro HS
  iapply (op_don m ρ K c (j := 20) (by decide) (send_sem 20 _)) $$ HS; iintro HS
  iapply (op_don m ρ K c (j := 21) (by decide) (send_sem 21 _)) $$ HS; iintro HS
  iapply (op_don m ρ K c (j := 22) (by decide) (send_sem 22 _)) $$ HS; iintro HS
  iapply (op_don m ρ K c (j := 23) (by decide) (send_sem 23 _)) $$ HS; iintro HS
  iapply (op_don m ρ K c (j := 24) (by decide) (send_sem 24 _)) $$ HS; iintro HS
  iapply (op_don m ρ K c (j := 25) (by decide) (send_sem 25 _)) $$ HS; iintro HS
  iapply (op_don m ρ K c (j := 26) (by decide) (send_sem 26 _)) $$ HS; iintro HS
  iapply (op_don m ρ K c (j := 27) (by decide) (send_sem 27 _)) $$ HS; iintro HS
  iapply (op_don m ρ K c (j := 28) (by decide) (send_sem 28 _)) $$ HS; iintro HS
  iapply (op_don m ρ K c (j := 29) (by decide) (send_sem 29 _)) $$ HS; iintro HS
  icases HS with ⟨HS, HD⟩
  rw [wp_ret]; imodintro
  iapply Hk
  unfold BodyOut
  isplitl [HS]; · iexact HS
  isplitl [Ha]; · iexact Ha
  isplitl [Hb]; · iexact Hb
  isplitl [HA0 HA1 HA2 HA3]
  · isplitl [HA0]; · iexact HA0
    isplitl [HA3]; · iexact HA3
    isplitl [HA2] <;> iassumption
  isplitl [HP0]; · iexact HP0
  isplitl [HR]; · iexact HR
  isplitl [HG] <;> iassumption

end Cert.KernelIdeal.Prf

end
-- ==== Proof.KernelIdeal.Place.lean ====
/-
# A device's memory and semaphores, sorted by who uses them

A buffer whole is its landing places in the order the device waits for them, and the places nobody sends to; the semaphores
of a device in the order of its transfers and of its waits. With these the run's assertions are exchanged for whole buffers
at both ends.
-/
module

public import proofs.«01_k».proof.Proof.KernelIdeal.Body

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## Stretches of numbers -/

omit [FloatOps F] in
theorem cut {a b n : ℕ} (h1 : a ≤ b) (h2 : b ≤ n) (Φ : ℕ → sProp 𝕄) :
    bigSep (Finset.Ico a n) Φ = iprop(bigSep (Finset.Ico a b) Φ ∗ bigSep (Finset.Ico b n) Φ) := by
  rw [← Finset.Ico_union_Ico_eq_Ico h1 h2]
  exact bigSep_union (Finset.Ico_disjoint_Ico_consecutive a b n)

omit [FloatOps F] in
theorem shift (a n : ℕ) (Φ : ℕ → sProp 𝕄) : bigSep (Finset.Ico a (a + n)) Φ = bigSep (Finset.range n) fun i => Φ (a + i) := by
  have h : (Finset.range n).image (fun i => a + i) = Finset.Ico a (a + n) := by
    ext i
    simp only [Finset.mem_image, Finset.mem_range, Finset.mem_Ico]
    exact ⟨by rintro ⟨j, hj, rfl⟩; omega, fun h => ⟨i - a, by omega, by omega⟩⟩
  rw [← h]
  exact bigSep_image_of_injOn (fun i _ j _ e => Nat.add_left_cancel e) Φ

omit [FloatOps F] in
theorem re_set {T : Type} [Fintype T] [DecidableEq T] (s : Finset ℕ) (f : ℕ → T) (hu : s.image f = Finset.univ)
    (hc : Fintype.card T = s.card) (Φ : T → sProp 𝕄) : bigSep Finset.univ Φ = bigSep s fun i => Φ (f i) := by
  rw [← hu]
  exact bigSep_image_of_injOn (Finset.card_image_iff.mp (by rw [hu, Finset.card_univ, hc])) Φ

omit [FloatOps F] in
theorem fin_range (n : ℕ) (Φ : ℕ → sProp 𝕄) : bigSep (Finset.univ : Finset (Fin n)) (fun i => Φ i.val) = bigSep (Finset.range n) Φ := by
  have h : (Finset.univ : Finset (Fin n)).image Fin.val = Finset.range n := by
    ext i
    simp only [Finset.mem_image, Finset.mem_univ, true_and, Finset.mem_range]
    exact ⟨by rintro ⟨j, rfl⟩; exact j.isLt, fun h => ⟨⟨i, h⟩, rfl⟩⟩
  rw [← h]
  exact (bigSep_image_of_injOn (fun i _ j _ e => Fin.ext e) Φ).symm

/-! ## Places -/

/-- The places of a device nobody sends to. -/
def ownSp (i : ℕ) : Spot :=
  if i < 4 then .pb (pc c) ⟨i % 4, Nat.mod_lt _ (by decide)⟩ else if i = 4 then .zb (zc c) else .ou (pc c) (zc c)

theorem used_own : ∀ (c : Dev nD) (i : ℕ), used c (ownSp c i) = false := by
  intro c i
  unfold ownSp
  split
  · show (pc c != pc c) = false; simp
  · split
    · show (zc c != zc c) = false; simp
    · show (!(pc c == pc c && zc c == zc c)) = false; simp

def pbIx (p z : Fin 4) (i : ℕ) : Fin 4 × Fin 4 := if i < 12 then (p - ofs i, z + zof i) else (p, ⟨(i - 12) % 4, Nat.mod_lt _ (by decide)⟩)
def zbIx (z : Fin 4) (i : ℕ) : Fin 4 := if i < 15 then z - ofs i else z
def ouIx (p z : Fin 4) (i : ℕ) : Fin 4 × Fin 4 :=
  if i < 18 then (p, z - ofs i)
  else if i < 30 then (p - ⟨((i - 18) / 4 + 1) % 4, Nat.mod_lt _ (by decide)⟩, ⟨(i - 18) % 4, Nat.mod_lt _ (by decide)⟩) else (p, z)
theorem pbIx_univ : ∀ p z : Fin 4, (Finset.Ico 0 16).image (pbIx p z) = Finset.univ := by decide +kernel
theorem zbIx_univ : ∀ z : Fin 4, (Finset.Ico 12 16).image (zbIx z) = Finset.univ := by decide +kernel
theorem ouIx_univ : ∀ p z : Fin 4, (Finset.Ico 15 31).image (ouIx p z) = Finset.univ := by decide +kernel

omit [FloatOps F] in
/-- The plane buffer's places: twelve waited for, four nobody sends to. -/
theorem pb_all (Φ : Spot → sProp 𝕄) : bigSep (Finset.univ : Finset (Fin 4 × Fin 4)) (fun t => Φ (.pb t.1 t.2))
    = iprop(bigSep (Finset.Ico 0 12) (fun i => Φ (rcv c i)) ∗ bigSep (Finset.range 4) (fun i => Φ (ownSp c i))) := by
  rw [re_set (Finset.Ico 0 16) (pbIx (pc c) (zc c)) (pbIx_univ _ _) (by decide), cut (show 0 ≤ 12 by decide) (show 12 ≤ 16 by decide), shift 12 4]
  refine congrArg₂ (fun A B : sProp 𝕄 => iprop(A ∗ B)) (bigSep_congr fun i hi => ?_) (bigSep_congr fun i hi => ?_)
  · have h : i < 12 := (Finset.mem_Ico.mp hi).2
    unfold pbIx rcv; rw [if_pos h, if_pos h]
  · have h : i < 4 := Finset.mem_range.mp hi
    unfold pbIx ownSp; rw [if_neg (by omega), if_pos h]; simp only [Nat.add_sub_cancel_left]
omit [FloatOps F] in
/-- The column buffer's places. -/
theorem zb_all (Φ : Spot → sProp 𝕄) : bigSep (Finset.univ : Finset (Fin 4)) (fun z => Φ (.zb z))
    = iprop(bigSep (Finset.Ico 12 15) (fun i => Φ (rcv c i)) ∗ Φ (ownSp c 4)) := by
  rw [re_set (Finset.Ico 12 16) (zbIx (zc c)) (zbIx_univ _) (by decide), cut (show 12 ≤ 15 by decide) (show 15 ≤ 16 by decide), bigSep_Ico_one]
  refine congrArg₂ (fun A B : sProp 𝕄 => iprop(A ∗ B)) (bigSep_congr fun i hi => ?_) rfl
  obtain ⟨h1, h2⟩ := Finset.mem_Ico.mp hi
  unfold zbIx rcv; rw [if_pos h2, if_neg (by omega), if_pos h2]
omit [FloatOps F] in
/-- The result's places. -/
theorem ou_all (Φ : Spot → sProp 𝕄) : bigSep (Finset.univ : Finset (Fin 4 × Fin 4)) (fun t => Φ (.ou t.1 t.2))
    = iprop(bigSep (Finset.Ico 15 30) (fun i => Φ (rcv c i)) ∗ Φ (.ou (pc c) (zc c))) := by
  rw [re_set (Finset.Ico 15 31) (ouIx (pc c) (zc c)) (ouIx_univ _ _) (by decide), cut (show 15 ≤ 30 by decide) (show 30 ≤ 31 by decide), bigSep_Ico_one]
  refine congrArg₂ (fun A B : sProp 𝕄 => iprop(A ∗ B)) (bigSep_congr fun i hi => ?_) rfl
  obtain ⟨h1, h2⟩ := Finset.mem_Ico.mp hi
  unfold ouIx rcv
  by_cases h : i < 18
  · rw [if_pos h, if_neg (by omega), if_neg (by omega), if_pos h]
  · rw [if_neg h, if_pos h2, if_neg (by omega), if_neg (by omega), if_neg h]

/-! ## Buffers -/

theorem any_rects {sp : Space} {sh : Shape} {e : EltTy} (M : Memref sig .tc sp sh e) {T : Type} [Fintype T] [DecidableEq T]
    (r : T → Rect sh) (hr : ∀ t a, (r t).stride a = 1) (hd : ∀ t t', t ≠ t' → Disjoint (r t).set (r t').set)
    (hcov : (Finset.univ : Finset T).biUnion (fun t => (r t).set) = Finset.univ) :
    (iprop(∃ X, owns (c : Thread nD τ) M fullShare X) : sProp 𝕄)
      = BI.bigSep Finset.univ (fun t => iprop(∃ X, owns (c : Thread nD τ) (M.slice (r t) (hr t)) fullShare X)) :=
  BI.equiv_iff.mp ⟨owns_rects_any c M r hr hd hcov, owns_of_rects_any c M r hr hd hcov⟩

omit [FloatOps F] in
theorem any_whole (b : Ref sig .tc) : (iprop(∃ f : Buf (Elt F) ((c : Thread nD τ).loc b), (c : Thread nD τ).loc b ↦{fullShare} f) : sProp 𝕄)
    = iprop(∃ X, owns (c : Thread nD τ) (Memref.whole b) fullShare X) := by
  have h₁ : (iprop(∃ f : Buf (Elt F) ((c : Thread nD τ).loc b), (c : Thread nD τ).loc b ↦{fullShare} f) : sProp 𝕄)
      ⊢ iprop(∃ X, owns (c : Thread nD τ) (Memref.whole b) fullShare X) := by
    iintro ⟨%f, H⟩
    iexists f
    iapply (Entails.of_eq (owns_whole (c : Thread nD τ) b fullShare f).symm)
    iexact H
  have h₂ : (iprop(∃ X, owns (c : Thread nD τ) (Memref.whole b) fullShare X) : sProp 𝕄)
      ⊢ iprop(∃ f : Buf (Elt F) ((c : Thread nD τ).loc b), (c : Thread nD τ).loc b ↦{fullShare} f) := by
    iintro ⟨%f, H⟩
    iexists f
    iapply (Entails.of_eq (owns_whole (c : Thread nD τ) b fullShare f))
    iexact H
  exact BI.equiv_iff.mp ⟨h₁, h₂⟩

theorem pr_any : (iprop(∃ f : Buf (Elt F) ((c : Thread nD τ).loc cc0_scratch1), (c : Thread nD τ).loc cc0_scratch1 ↦{fullShare} f) : sProp 𝕄)
    = bigSep Finset.univ (fun z : Fin 4 => iprop(∃ X, owns (c : Thread nD τ) (srcM (.pr z)) fullShare X)) :=
  (any_whole c cc0_scratch1).trans (any_rects c prW rectR (fun _ _ => rfl) disjR covR)
theorem pb_any : (iprop(∃ f : Buf (Elt F) ((c : Thread nD τ).loc cc0_scratch2), (c : Thread nD τ).loc cc0_scratch2 ↦{fullShare} f) : sProp 𝕄)
    = bigSep Finset.univ (fun t : Fin 4 × Fin 4 => anyP c (.pb t.1 t.2)) :=
  (any_whole c cc0_scratch2).trans ((any_rects c pbW (fun t : Fin 4 × Fin 4 => rectB t.1 t.2) (fun _ _ => rfl) disjB covB).trans
    (bigSep_congr fun t _ => (owns_squeeze_any c _ squeezes_S1x48x768_S48x768 fullShare).symm))
theorem zb_any : (iprop(∃ f : Buf (Elt F) ((c : Thread nD τ).loc cc0_scratch3), (c : Thread nD τ).loc cc0_scratch3 ↦{fullShare} f) : sProp 𝕄)
    = bigSep Finset.univ (fun z : Fin 4 => anyP c (.zb z)) :=
  (any_whole c cc0_scratch3).trans ((any_rects c zbW rectZ (fun _ _ => rfl) disjZ covZ).trans
    (bigSep_congr fun t _ => (owns_squeeze_any c _ squeezes_S1x48x768_S48x768 fullShare).symm))
theorem ou_any : (iprop(∃ f : Buf (Elt F) ((c : Thread nD τ).loc cc0_stg2_0), (c : Thread nD τ).loc cc0_stg2_0 ↦{fullShare} f) : sProp 𝕄)
    = bigSep Finset.univ (fun t : Fin 4 × Fin 4 => anyP c (.ou t.1 t.2)) :=
  (any_whole c cc0_stg2_0).trans (any_rects c outW (fun t : Fin 4 × Fin 4 => rectC t.1 t.2) (fun _ _ => rfl) disjC covC)

/-- Where in its chunk an element of the result lies. -/
def cIx (i : S768x768.Idx) : S48x768.Idx
  | ⟨0, _⟩ => (⟨(i 0).val % 48, Nat.mod_lt _ (by decide)⟩ : Fin 48)
  | ⟨1, _⟩ => (⟨(i 1).val, (i 1).isLt⟩ : Fin 768)

/-- The result: chunk `(p, z)` is the sum device `(p, z)` computes. -/
def outAt : (cc0_stg2_0 : Ref sig .tc).ty.Contents (Elt F) := fun i : S768x768.Idx =>
  red m ρ (dv ⟨(i 0).val / 192, Nat.div_lt_of_lt_mul (i 0).isLt⟩ ⟨(i 0).val % 192 / 48, Nat.div_lt_of_lt_mul (Nat.mod_lt _ (by decide))⟩) (cIx i)

theorem outAt_emb (p z : Fin 4) : (fun j => outAt m ρ ((rectC p z).emb j)) = red m ρ (dv p z) := by
  funext j
  have h0 : ((rectC p z).emb j 0).val = 192 * p.val + 48 * z.val + (j 0).val := (Rect.emb_apply _ _ _).trans (by
    show 192 * p.val + 48 * z.val + 1 * (j 0).val = _; omega)
  have h1 : ((rectC p z).emb j 1).val = (j 1).val := (Rect.emb_apply _ _ _).trans (by
    show 0 + 1 * (j 1).val = _; omega)
  have hj : (j 0).val < 48 := (j 0).isLt
  have hz := z.isLt
  unfold outAt
  have e1 : (⟨((rectC p z).emb j 0).val / 192, Nat.div_lt_of_lt_mul ((rectC p z).emb j 0).isLt⟩ : Fin 4) = p := Fin.ext (by
    show ((rectC p z).emb j 0).val / 192 = p.val; rw [h0]; omega)
  have e2 : (⟨((rectC p z).emb j 0).val % 192 / 48, Nat.div_lt_of_lt_mul (Nat.mod_lt _ (by decide))⟩ : Fin 4) = z := Fin.ext (by
    show ((rectC p z).emb j 0).val % 192 / 48 = z.val; rw [h0]; omega)
  rw [e1, e2]
  refine congrArg (red m ρ (dv p z)) (funext fun a => ?_)
  match a with
  | ⟨0, _⟩ => exact Fin.ext (by show ((rectC p z).emb j 0).val % 48 = (j 0).val; rw [h0]; omega)
  | ⟨1, _⟩ => exact Fin.ext h1

/-- The result's chunks at their values are the result. -/
theorem out_whole : bigSep (Finset.univ : Finset (Fin 4 × Fin 4)) (fun t => rPay m ρ c (.ou t.1 t.2))
    ⊢ ((c : Thread nD τ).loc cc0_stg2_0 ↦{fullShare} outAt m ρ : sProp 𝕄) := by
  refine BIBase.Entails.trans ?_ (Entails.of_eq (owns_whole (c : Thread nD τ) cc0_stg2_0 fullShare (outAt m ρ)))
  refine BIBase.Entails.trans ?_ (owns_of_rects (c : Thread nD τ) outW fullShare (fun t : Fin 4 × Fin 4 => rectC t.1 t.2) (fun _ _ => rfl) disjC covC (outAt m ρ))
  refine Entails.of_eq (bigSep_congr fun t _ => ?_)
  rw [outAt_emb]
  rfl

theorem rPay_any (x : Spot) : rPay m ρ c x ⊢ anyP (F := F) c x := owns_any c _ _ _

/-! ## What the barrier hands over -/

def giv (c : Dev nD) (j : ℕ) : Spot := dst (nb c (opp (pn j))) j
theorem giv_rcv : ∀ (c : Dev nD) (j : Fin 30), rcv c (rno c (giv c j)) = giv c j := by decide +kernel
theorem giv_univ : ∀ c : Dev nD, (Finset.range 30).image (fun j => rno c (giv c j)) = Finset.range 30 := by decide +kernel
def oppE : Fin 6 ≃ Fin 6 := ⟨opp, opp, opp_opp, opp_opp⟩

omit [FloatOps F] in
/-- The places a device waits for are what it hands to its six neighbours. -/
theorem give_all : bigSep (Finset.range 30) (fun i => anyP (F := F) c (rcv c i))
    = bigSep (Finset.Ico 0 6) (fun k => barPay (F := F) (nbn c k) (opp ⟨k % 6, Nat.mod_lt _ (by decide)⟩)) := by
  have h1 : bigSep (Finset.range 30) (fun i => anyP (F := F) c (rcv c i)) = bigSep (Finset.range 30) (fun j => anyP (F := F) c (giv c j)) := by
    conv_lhs => rw [← giv_univ c]
    rw [bigSep_image_of_injOn (Finset.card_image_iff.mp (by rw [giv_univ]))]
    exact bigSep_congr fun j hj => congrArg (anyP c) (giv_rcv c ⟨j, Finset.mem_range.mp hj⟩)
  have h2 : bigSep (Finset.range 30) (fun j => anyP (F := F) c (giv c j))
      = bigSep (Finset.univ : Finset (Fin 6)) (fun k => bigSep ((Finset.range 30).filter fun j => pn j = k) fun j => anyP (F := F) c (giv c j)) := by
    have hu : (Finset.univ : Finset (Fin 6)).biUnion (fun k => (Finset.range 30).filter fun j => pn j = k) = Finset.range 30 := by
      ext j; simp
    refine Eq.trans (congrArg (fun s => bigSep s fun j => (anyP c (giv c j) : sProp 𝕄)) hu.symm) (bigSep_biUnion_eq _ _ _ ?_)
    intro k _ k' _ hk
    exact Finset.disjoint_left.mpr fun j h1 h2 => hk ((Finset.mem_filter.mp h1).2.symm.trans (Finset.mem_filter.mp h2).2)
  have h3 : bigSep (Finset.univ : Finset (Fin 6)) (fun k => bigSep ((Finset.range 30).filter fun j => pn j = k) fun j => anyP (F := F) c (giv c j))
      = bigSep (Finset.univ : Finset (Fin 6)) (fun k => barPay (F := F) (nb c k) (opp k)) := by
    rw [bigSep_univ_equiv oppE]
    refine bigSep_congr fun k _ => ?_
    show bigSep ((Finset.range 30).filter fun j => pn j = opp k) (fun j => (anyP c (giv c j) : sProp 𝕄))
      = bigSep ((Finset.range 30).filter fun j => pn j = opp k) fun j => anyP (nb (nb c k) (opp k)) (dst (nb c k) j)
    rw [nb_opp]
    refine bigSep_congr fun j hj => ?_
    unfold giv
    rw [(Finset.mem_filter.mp hj).2, opp_opp]
  rw [h1, h2, h3]
  exact re_set (Finset.Ico 0 6) (fun k => (⟨k % 6, Nat.mod_lt _ (by decide)⟩ : Fin 6)) (by decide) (by decide) _

/-! ## Semaphores -/

/-- The cells of a device in order: sends, receives it waits for, receives nobody sends to, the barrier. -/
def cellIx (c : Dev nD) (i : ℕ) : Fin 67 :=
  if i < 30 then sIx i else if i < 60 then rIx (rcv c (i - 30)) else if i < 66 then rIx (ownSp c (i - 60)) else 0
theorem cellIx_univ : ∀ c : Dev nD, (Finset.Ico 0 67).image (cellIx c) = Finset.univ := by decide +kernel

omit [FloatOps F] in
theorem cells_all (Φ : SemLoc sig → sProp 𝕄) : bigSep Finset.univ (fun k : Fin 67 => Φ (csem k))
    = iprop(bigSep (Finset.range 30) (fun j => Φ (.dma (sS j))) ∗ bigSep (Finset.range 30) (fun i => Φ (.dma (rS (rcv c i))))
      ∗ bigSep (Finset.range 6) (fun i => Φ (.dma (rS (ownSp c i)))) ∗ Φ (.reg barS)) := by
  rw [re_set (Finset.Ico 0 67) (cellIx c) (cellIx_univ c) (by decide), cut (show 0 ≤ 30 by decide) (show 30 ≤ 67 by decide),
    cut (show 30 ≤ 60 by decide) (show 60 ≤ 67 by decide), cut (show 60 ≤ 66 by decide) (show 66 ≤ 67 by decide), bigSep_Ico_one, shift 30 30, shift 60 6,
    ← Finset.range_eq_Ico]
  refine congrArg₂ (fun A B : sProp 𝕄 => iprop(A ∗ B)) (bigSep_congr fun i hi => ?_)
    (congrArg₂ (fun A B : sProp 𝕄 => iprop(A ∗ B)) (bigSep_congr fun i hi => ?_)
      (congrArg₂ (fun A B : sProp 𝕄 => iprop(A ∗ B)) (bigSep_congr fun i hi => ?_) rfl))
  · have h : i < 30 := Finset.mem_range.mp hi
    unfold cellIx; rw [if_pos h, csem_sIx]
  · have h : i < 30 := Finset.mem_range.mp hi
    unfold cellIx; rw [if_neg (by omega), if_pos (by omega), csem_rIx, Nat.add_sub_cancel_left]
  · have h : i < 6 := Finset.mem_range.mp hi
    unfold cellIx; rw [if_neg (by omega), if_neg (by omega), if_pos (by omega), csem_rIx, Nat.add_sub_cancel_left]

end Cert.KernelIdeal.Prf

end
-- ==== Proof.KernelIdeal.Deal.lean ====
/-
# What the launch deals

The launch creates every cell, its position and its duty tokens on the device that owns the cell. This module passes the
tokens on to the devices that pay with them, allocates the cells' invariants, and counts the credit each device starts with
against what all devices owe.
-/
module

public import proofs.«01_k».proof.Proof.KernelIdeal.Place

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem csem_inj : Function.Injective csem := by
  intro k k' h
  unfold csem at h
  split at h <;> split at h
  · exact Fin.ext (by omega)
  · cases h
  · cases h
  · have h' := congrArg Fin.val (SemLoc.dma.inj h)
    exact Fin.ext (by simpa using h')

theorem kcell_inj : Function.Injective (kcell : Dev nD × Fin 67 → GSem nD τ sig) := by
  rintro ⟨c, k⟩ ⟨c', k'⟩ h
  have h1 : c = c' := congrArg (fun g : GSem nD τ sig => g.1.1) h
  have h2 : csem k = csem k' := congrArg Prod.snd h
  rw [h1, csem_inj h2]

def theCells : Finset (GSem nD τ sig) := Finset.univ.map ⟨kcell, kcell_inj⟩

theorem rcv_inj (c : Dev nD) {i i' : Fin 30} (h : rcv c i = rcv c i') : i = i' :=
  Fin.ext (by rw [← rno_rcv c i, ← rno_rcv c i', h])
theorem sS_inj {j j' : Fin 30} (h : sS j = sS j') : j = j' := by
  have h' := congrArg Fin.val h
  rw [sS_val j.isLt, sS_val j'.isLt] at h'
  exact Fin.ext (by omega)

/-- The duties of a device's own cells: its barrier's six, its thirty sends', its thirty receives'. -/
abbrev TI : Type := Fin 6 ⊕ (Fin 30 ⊕ Fin 30)
def tokOf (ci : Dev nD × TI) : GSem nD τ sig × ℕ × Fin 6 := match ci.2 with
  | .inl k => (barCell ci.1, 0, k)
  | .inr (.inl j) => (sCell ci.1 j, 0, 0)
  | .inr (.inr i) => (rCell ci.1 (rcv ci.1 i), 0, 0)

theorem tokOf_dev (ci : Dev nD × TI) : (tokOf ci).1.1.1 = ci.1 := by
  rcases ci with ⟨c, k | j | i⟩ <;> rfl

theorem tokOf_inj : Function.Injective tokOf := by
  rintro ⟨c, x⟩ ⟨c', x'⟩ h
  obtain rfl : c = c' := (tokOf_dev (c, x)).symm.trans ((congrArg (fun y : GSem nD τ sig × ℕ × Fin 6 => y.1.1.1) h).trans (tokOf_dev (c', x')))
  have hs := congrArg (fun y : GSem nD τ sig × ℕ × Fin 6 => y.1.2) h
  have hd := congrArg (fun y : GSem nD τ sig × ℕ × Fin 6 => y.2.2) h
  rcases x with k | j | i <;> rcases x' with k' | j' | i'
  · exact congrArg (fun k => (c, Sum.inl k)) hd
  · cases hs
  · cases hs
  · cases hs
  · rw [sS_inj (SemLoc.dma.inj hs)]
  · exact absurd (SemLoc.dma.inj hs) (sS_ne_rS _ _)
  · cases hs
  · exact absurd (SemLoc.dma.inj hs).symm (sS_ne_rS _ _)
  · rw [rcv_inj c (rS_inj (SemLoc.dma.inj hs))]

def theToks : Finset (GSem nD τ sig × ℕ × Fin 6) := Finset.univ.map ⟨tokOf, tokOf_inj⟩

def u₀ : UU := (initOf (Pipeline.cells cfgs cellOf_inj) (Pipeline.launchToks cfgs cellOf_inj), initOf theCells theToks)

/-- The tokens of a device's own cells' duties; the tokens of the duties a device pays. -/
def toks (c : Dev nD) : sProp 𝕄 :=
  iprop((bigSep Finset.univ fun k : Fin 6 => dutyTok ER (barCell c) 0 k) ∗ (bigSep Finset.univ fun j : Fin 30 => dutyTok ER (sCell c j) 0 0)
    ∗ bigSep Finset.univ fun i : Fin 30 => dutyTok ER (rCell c (rcv c i)) 0 0)
def payToks (c : Dev nD) : sProp 𝕄 :=
  iprop((bigSep Finset.univ fun k : Fin 6 => dutyTok ER (barCell (nb c k)) 0 (opp k)) ∗ (bigSep Finset.univ fun j : Fin 30 => dutyTok ER (sCell c j) 0 0)
    ∗ bigSep Finset.univ fun j : Fin 30 => dutyTok ER (rCell (tgt c j) (dst c j)) 0 0)

/-- Signals go both ways between neighbours; a receive's duty belongs to the transfer that lands there. -/
def barE : Dev nD × Fin 6 ≃ Dev nD × Fin 6 :=
  ⟨fun p => (nb p.1 p.2, opp p.2), fun p => (nb p.1 p.2, opp p.2), fun p => Prod.ext (nb_opp p.1 p.2) (opp_opp p.2), fun p => Prod.ext (nb_opp p.1 p.2) (opp_opp p.2)⟩
def rcvE : Dev nD × Fin 30 ≃ Dev nD × Fin 30 where
  toFun p := (tgt p.1 p.2, ⟨rno (tgt p.1 p.2) (dst p.1 p.2), (rcv_rno _ _ (used_dst p.1 p.2)).1⟩)
  invFun p := ((sdr p.1 (rcv p.1 p.2)).1, ⟨(sdr p.1 (rcv p.1 p.2)).2, (tgt_sdr _ _ (used_rcv p.1 p.2)).1⟩)
  left_inv p := by
    have h := (rcv_rno _ _ (used_dst p.1 p.2)).2
    have h' := sdr_dst p.1 p.2
    refine Prod.ext ?_ (Fin.ext ?_)
    · show (sdr (tgt p.1 p.2) (rcv (tgt p.1 p.2) (rno (tgt p.1 p.2) (dst p.1 p.2)))).1 = _
      rw [h, h']
    · show (sdr (tgt p.1 p.2) (rcv (tgt p.1 p.2) (rno (tgt p.1 p.2) (dst p.1 p.2)))).2 = _
      rw [h, h']
  right_inv p := by
    obtain ⟨h1, h2, h3⟩ := tgt_sdr _ _ (used_rcv p.1 p.2)
    refine Prod.ext h2 (Fin.ext ?_)
    show rno (tgt (sdr p.1 (rcv p.1 p.2)).1 (sdr p.1 (rcv p.1 p.2)).2) (dst (sdr p.1 (rcv p.1 p.2)).1 (sdr p.1 (rcv p.1 p.2)).2) = _
    rw [h2, h3, rno_rcv]

theorem toks_around : (bigSep Finset.univ fun c : Dev nD => (toks c : sProp 𝕄)) = bigSep Finset.univ fun c : Dev nD => payToks c := by
  have hB : (bigSep Finset.univ fun c : Dev nD => bigSep Finset.univ fun k : Fin 6 => (dutyTok ER (barCell c) 0 k : sProp 𝕄))
      = bigSep Finset.univ fun c : Dev nD => bigSep Finset.univ fun k : Fin 6 => (dutyTok ER (barCell (nb c k)) 0 (opp k) : sProp 𝕄) := by
    rw [← bigSep_univ_prod (fun p : Dev nD × Fin 6 => (dutyTok ER (barCell p.1) 0 p.2 : sProp 𝕄)), bigSep_univ_equiv barE, bigSep_univ_prod]
    rfl
  have hR : (bigSep Finset.univ fun c : Dev nD => bigSep Finset.univ fun i : Fin 30 => (dutyTok ER (rCell c (rcv c i)) 0 0 : sProp 𝕄))
      = bigSep Finset.univ fun c : Dev nD => bigSep Finset.univ fun j : Fin 30 => (dutyTok ER (rCell (tgt c j) (dst c j)) 0 0 : sProp 𝕄) := by
    rw [← bigSep_univ_prod (fun p : Dev nD × Fin 30 => (dutyTok ER (rCell p.1 (rcv p.1 p.2)) 0 0 : sProp 𝕄)), bigSep_univ_equiv rcvE, bigSep_univ_prod]
    refine bigSep_congr fun c _ => bigSep_congr fun j _ => ?_
    show (dutyTok ER (rCell (tgt c j) (rcv (tgt c j) (rno (tgt c j) (dst c j)))) 0 0 : sProp 𝕄) = _
    rw [(rcv_rno _ _ (used_dst c j)).2]
  unfold toks payToks
  rw [bigSep_sep', bigSep_sep', bigSep_sep', bigSep_sep', hB, hR]

/-! ## The cells' states -/

def G (c : Dev nD) : sProp 𝕄 :=
  iprop((bigSep Finset.univ fun k : Fin 67 => roundState ER (rd m ρ) (kcell (c, k)) 0)
    ∗ (bigSep Finset.univ fun k : Fin 67 => iprop(atPos ER (kcell (c, k)) 0 ∅ 0 ∗ reached ER (kcell (c, k)) 0)) ∗ toks c)

def linear (c : Dev nD) : sProp 𝕄 := iprop((bigSep Finset.univ fun k : Fin 67 => atPos ER (kcell (c, k)) 0 ∅ 0) ∗ payToks c)
def G' (c : Dev nD) : sProp 𝕄 := iprop(∃ K, records m ρ K ∗ linear c)

theorem fund_cells : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Fin 67 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    refine bigSep_congr fun c _ => ?_
    rw [bigSep_univ_sum, bigSep_univ_sum]; rfl
  iintro HX
  imod (Rounds.fund ER (rd m ρ) theCells theToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own sixty-six semaphores; with the runtime's barrier semaphore they are the device's cells. -/
abbrev osem : Fin 66 → SemLoc sig := fun k => csem k.succ

theorem ownSemFacts : Pipeline.OwnSemFacts cfg0.spec osem := by decide +kernel

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 67 => semVal (kcell (c, k)) 0 : sProp 𝕄) := by
  rw [unscopedSems0_eq, Fin.univ_succ, Finset.cons_eq_insert, bigSep_insert (by simp), bigSep_map]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 67 => semVal (kcell (c, k)) 0) ∗ bigSep Finset.univ fun k : Fin 67 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 67 => iprop(∃ κ : ℕ, cellInv ER (rd m ρ) κ (kcell ck))),
    bigSep_congr (s := Finset.univ) (fun (c : Dev nD) _ => bigSep_sep' Finset.univ (fun k : Fin 67 => (atPos ER (kcell (c, k)) 0 ∅ 0 : sProp 𝕄)) (fun k => reached ER (kcell (c, k)) 0)),
    bigSep_sep', ← bigSep_univ_prod (fun ck : Dev nD × Fin 67 => (reached ER (kcell ck) 0 : sProp 𝕄)), toks_around]
  iintro ⟨HI, ⟨Hat, HR⟩, Htk⟩
  ihave HK := (BI.bigSep_exists_pi Finset.univ (fun (ck : Dev nD × Fin 67) (κ : ℕ) => (cellInv ER (rd m ρ) κ (kcell ck) : sProp 𝕄))) $$ HI
  icases HK with ⟨%K, HI⟩
  iapply (bigSep_with_persistent (R := records m ρ K) (Φ := linear) fun c _ => show iprop(records m ρ K ∗ linear c) ⊢ G' m ρ c from by
    unfold G'; iintro H; iexists K; iexact H)
  isplitl [HI HR]
  · unfold records
    rw [bigSep_sep']
    isplitl [HI] <;> iassumption
  · unfold linear
    rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## Credit -/

theorem sum_tally_apply {I : Type} [DecidableEq I] (s : Finset I) (f : I → GSem nD τ sig) (n : ℕ) (g : GSem nD τ sig) :
    (∑ i ∈ s, tallyAt (f i) () n : CellTallies nD τ sig Unit) g () = ∑ i ∈ s, if g = f i then n else 0 := by
  induction s using Finset.induction_on with
  | empty => rfl
  | insert a s ha ih =>
    rw [Finset.sum_insert ha, Finset.sum_insert ha, Pi.add_apply, Finsupp.add_apply, ih, tallyAt_apply]
    congr 1
    by_cases h : g = f a
    · rw [if_pos ⟨h, rfl⟩, if_pos h]
    · rw [if_neg fun h' => h h'.1, if_neg h]

theorem bar_eq_iff {a b : Dev nD} : Iff (barCell a = barCell b) (a = b) :=
  ⟨fun h => congrArg (fun g : GSem nD τ sig => g.1.1) h, fun h => h ▸ rfl⟩
theorem rcell_eq_iff {a b : Dev nD} {x y : Spot} : Iff (rCell a x = rCell b y) (a = b ∧ x = y) :=
  ⟨fun h => ⟨congrArg (fun g : GSem nD τ sig => g.1.1) h, rS_inj (SemLoc.dma.inj (congrArg Prod.snd h))⟩, fun h => by rw [h.1, h.2]⟩

theorem bar_count : ∀ c : Dev nD, (∑ d : Dev nD, ∑ k ∈ Finset.Ico 0 6, if c = nbn d k then 1 else 0) = 6 := by decide +kernel

theorem owed_bar (c : Dev nD) : ∑ d : Dev nD, owB d 0 (barCell c) () = 6 := by
  rw [← bar_count c]
  refine Finset.sum_congr rfl fun d _ => ?_
  unfold owB owS
  rw [Pi.add_apply, Finsupp.add_apply, sum_tally_apply, sum_tally_apply, Finset.sum_eq_zero fun j _ => if_neg fun h => absurd (congrArg Prod.snd h) (by intro h'; cases h'), Nat.zero_add]
  exact Finset.sum_congr rfl fun k _ => if_congr bar_eq_iff rfl rfl

theorem owed_r (c : Dev nD) (x : Spot) (hx : used c x = true) : ∑ d : Dev nD, owB d 0 (rCell c x) () = N := by
  obtain ⟨h1, h2, h3⟩ := tgt_sdr c x hx
  have e (d : Dev nD) : owB d 0 (rCell c x) () = ∑ j ∈ Finset.Ico 0 30, if c = tgt d j ∧ x = dst d j then N else 0 := by
    unfold owB owS
    rw [Pi.add_apply, Finsupp.add_apply, sum_tally_apply, sum_tally_apply,
      Finset.sum_eq_zero (s := Finset.Ico 0 6) fun j _ => if_neg fun h => absurd (congrArg Prod.snd h) (by intro h'; cases h'), Nat.add_zero]
    exact Finset.sum_congr rfl fun k _ => if_congr rcell_eq_iff rfl rfl
  have u (d : Dev nD) (j : ℕ) (hj : j < 30) (h : c = tgt d j ∧ x = dst d j) : sdr c x = (d, j) := by
    rw [h.1, h.2]; exact sdr_dst d ⟨j, hj⟩
  rw [Finset.sum_eq_single (sdr c x).1, e, Finset.sum_eq_single (sdr c x).2, if_pos ⟨h2.symm, h3.symm⟩]
  · exact fun j hj hne => if_neg fun h => hne (by rw [u _ j (Finset.mem_Ico.mp hj).2 h])
  · exact fun h => absurd (Finset.mem_Ico.mpr ⟨Nat.zero_le _, h1⟩) h
  · exact fun d _ hne => (e d).trans (Finset.sum_eq_zero fun j hj => if_neg fun h => hne (by rw [u d j (Finset.mem_Ico.mp hj).2 h]))
  · exact fun h => absurd (Finset.mem_univ _) h

theorem launch_of (g : GSem nD τ sig) (n : ℕ) (h : ∑ d : Dev nD, owB d 0 g () = n) :
    tallyOn g (launchCredit (Pipeline.owing fun c => owB c 0) 0 g) = (tallyAt g () n : CellTallies nD τ sig Unit) := by
  unfold tallyAt; refine congrArg _ (Finsupp.ext fun u => ?_); cases u
  rw [Pipeline.launchCredit_owing, Finsupp.single_eq_same, h]

theorem creds (c : Dev nD) :
    (Pipeline.launchCred (fun c => owB c 0) c : sProp 𝕄)
      ⊢ iprop(cred (tallyAt (barCell c) () 6) ∗ bigSep (Finset.range 30) fun i => cred (tallyAt (rCell c (rcv c i)) () N)) := by
  unfold Pipeline.launchCred
  refine (bigSep_subset (Finset.subset_univ (Finset.univ.map ⟨csem, csem_inj⟩))).trans ?_
  rw [bigSep_map]
  refine (Entails.of_eq (cells_all c fun sm => (cred (tallyOn ((c.tc : Thread nD τ), sm)
    (launchCredit (Pipeline.owing fun c => owB c 0) 0 ((c.tc : Thread nD τ), sm))) : sProp 𝕄))).trans ?_
  have hR : (bigSep (Finset.range 30) fun i => (cred (tallyOn (rCell c (rcv c i)) (launchCredit (Pipeline.owing fun c => owB c 0) 0 (rCell c (rcv c i)))) : sProp 𝕄))
      = bigSep (Finset.range 30) fun i => cred (tallyAt (rCell c (rcv c i)) () N) :=
    bigSep_congr fun i hi => by rw [launch_of (rCell c (rcv c i)) N (owed_r c _ (used_rcv c ⟨i, Finset.mem_range.mp hi⟩))]
  rw [launch_of (barCell c) 6 (owed_bar c), hR]
  iintro ⟨-, HR, -, HB⟩
  isplitl [HB] <;> iassumption

end Cert.KernelIdeal.Prf

end
-- ==== Proof.KernelIdeal.Run.lean ====
/-
# The kernel runs

The body proof, joined to what the pipeline hands a device and takes back from it; then the whole program.
-/
module

public import proofs.«01_k».proof.Proof.KernelIdeal.Deal
public import proofs.«01_k».proof.Proof.Gen.KernelIdeal.Frame

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 67 → ℕ) (c : Dev nD)

/-! ## Into the body -/

/-- A device's buffer, whole at some contents. -/
abbrev anyBuf (b : Ref sig .tc) : sProp 𝕄 := iprop(∃ f : Buf (Elt F) ((c : Thread nD τ).loc b), (c : Thread nD τ).loc b ↦{fullShare} f)

/-- What the body does not touch: the places nobody sends to and their semaphores. -/
def kept : sProp 𝕄 :=
  iprop(bigSep (Finset.range 4) (fun i => anyP (F := F) c (ownSp c i)) ∗ anyP c (ownSp c 4)
    ∗ bigSep (Finset.range 6) fun i => semVal (rCell c (ownSp c i)) 0)

/-- The cells nobody sends to have no duty, so they close at once. -/
theorem close_own : iprop(records m ρ K ∗ bigSep (Finset.range 6) fun i => atPos ER (rCell c (ownSp c i)) 0 ∅ 0)
    ⊢ (|={Set.univ}=> bigSep (Finset.range 6) fun i => semVal (rCell c (ownSp c i)) 0 : sProp 𝕄) := by
  refine BIBase.Entails.trans (bigSep_with_persistent (R := records m ρ K) (Ψ := fun i => iprop(|={Set.univ}=> semVal (rCell c (ownSp c i)) 0)) fun i _ => ?_) (bigSep_fupd _ _)
  iintro ⟨HR, Hat⟩
  ihave H := (rec_at m ρ K c (rIx (ownSp c i)) (csem_rIx _)) $$ HR
  icases H with ⟨Hinv, -⟩
  iapply (Rounds.cell_close ER (rd m ρ) (Set.mem_univ (K (c, rIx (ownSp c i)))) (fun h => h) (R := 0) (duties_unused m ρ c (used_own c i)))
  isplitl [Hinv] <;> iassumption

theorem at_split : (bigSep Finset.univ fun k : Fin 67 => atPos ER (kcell (c, k)) 0 ∅ 0 : sProp 𝕄)
    = iprop(bigSep (Finset.range 30) (fun j => atPos ER (sCell c j) 0 ∅ 0) ∗ bigSep (Finset.range 30) (fun i => atPos ER (rCell c (rcv c i)) 0 ∅ 0)
      ∗ bigSep (Finset.range 6) (fun i => atPos ER (rCell c (ownSp c i)) 0 ∅ 0) ∗ atPos ER (barCell c) 0 ∅ 0) :=
  cells_all c fun sm => (atPos ER ((c : Thread nD τ), sm) 0 ∅ 0 : sProp 𝕄)
theorem sem_split : (bigSep Finset.univ fun k : Fin 67 => semVal (kcell (c, k)) 0 : sProp 𝕄)
    = iprop(bigSep (Finset.range 30) (fun j => semVal (sCell c j) 0) ∗ bigSep (Finset.range 30) (fun i => semVal (rCell c (rcv c i)) 0)
      ∗ bigSep (Finset.range 6) (fun i => semVal (rCell c (ownSp c i)) 0) ∗ semVal (barCell c) 0) :=
  cells_all c fun sm => (semVal ((c : Thread nD τ), sm) 0 : sProp 𝕄)

theorem toks_split : (payToks c : sProp 𝕄)
    = iprop(bigSep (Finset.Ico 0 6) (fun k => dutyTok ER (barCell (nbn c k)) 0 (opp ⟨k % 6, Nat.mod_lt _ (by decide)⟩))
      ∗ bigSep (Finset.range 30) (fun j => dutyTok ER (sCell c j) 0 0) ∗ bigSep (Finset.range 30) (fun j => dutyTok ER (rCell (tgt c j) (dst c j)) 0 0)) := by
  unfold payToks
  rw [fin_range 30 (fun j => (dutyTok ER (sCell c j) 0 0 : sProp 𝕄)), fin_range 30 (fun j => (dutyTok ER (rCell (tgt c j) (dst c j)) 0 0 : sProp 𝕄)),
    re_set (Finset.Ico 0 6) (fun k => (⟨k % 6, Nat.mod_lt _ (by decide)⟩ : Fin 6)) (by decide) (by decide)]

/-- The places a device waits for, out of its three buffers. -/
theorem give_places : iprop(anyBuf (F := F) c cc0_scratch2 ∗ anyBuf c cc0_scratch3 ∗ anyBuf c cc0_stg2_0)
    ⊢ (iprop(bigSep (Finset.range 30) (fun i => anyP c (rcv c i)) ∗ bigSep (Finset.range 4) (fun i => anyP c (ownSp c i)) ∗ anyP c (ownSp c 4)
      ∗ anyP c (.ou (pc c) (zc c))) : sProp 𝕄) := by
  unfold anyBuf
  rw [pb_any c, zb_any c, ou_any c, pb_all c, zb_all c, ou_all c, Finset.range_eq_Ico 30, cut (show 0 ≤ 12 by decide) (show 12 ≤ 30 by decide),
    cut (show 12 ≤ 15 by decide) (show 15 ≤ 30 by decide)]
  iintro ⟨⟨HB, HBo⟩, ⟨HZ, HZo⟩, HO, HOo⟩
  isplitl [HB HZ HO]
  · isplitl [HB]; · iexact HB
    isplitl [HZ] <;> iassumption
  isplitl [HBo]; · iexact HBo
  isplitl [HZo] <;> iassumption

/-- What a device starts its body with is what the body proof wants. -/
theorem enter : iprop((records m ρ K ∗ linear c) ∗ (cred (tallyAt (barCell c) () 6) ∗ bigSep (Finset.range 30) fun i => cred (tallyAt (rCell c (rcv c i)) () N))
      ∗ levAts L lv ∗ (∃ W, owes (c : Thread nD τ) (owB c 0) W) ∗ anyBuf (F := F) c cc0_scratch2 ∗ anyBuf c cc0_scratch3 ∗ anyBuf c cc0_stg2_0)
    ⊢ (|={Set.univ}=> iprop(StB m ρ K c 0 ∗ anyP c (.ou (pc c) (zc c)) ∗ kept c) : sProp 𝕄) := by
  unfold linear
  rw [at_split, toks_split]
  iintro ⟨⟨#HR, ⟨HatS, HatR, HatO, HatB⟩, HtB, HtS, HtR⟩, ⟨HcB, HcR⟩, HL, HO, Hbufs⟩
  ihave Hp := (give_places (F := F) c) $$ Hbufs
  icases Hp with ⟨Hgive, Hk1, Hk2, Hou⟩
  ihave Hgive := (Entails.of_eq (give_all (F := F) c)) $$ Hgive
  imod (close_own m ρ K c) $$ [HatO] with Hz
  · isplitr; · iexact HR
    iexact HatO
  imodintro
  isplitr [Hou Hk1 Hk2 Hz]
  · unfold StB bTok sTok rPend
    rw [bigSep_sep', bigSep_sep', bigSep_sep', bigSep_sep', ← Finset.range_eq_Ico 30]
    isplitl [HL]
    · isplitr; · iexact HR
      iexact HL
    isplitl [HO]; · iexact HO
    isplitl [HtB Hgive]
    · isplitl [HtB] <;> iassumption
    isplitl [HcB HatB]
    · isplitl [HcB] <;> iassumption
    isplitl [HtS HtR HatS]
    · isplitl [HtS]; · iexact HtS
      isplitl [HtR] <;> iassumption
    isplitl [HcR] <;> iassumption
  · isplitl [Hou]; · iexact Hou
    unfold kept
    isplitl [Hk1]; · iexact Hk1
    isplitl [Hk2] <;> iassumption

/-! ## Out of the body -/

theorem own_rPay : (owns (c : Thread nD τ) (spotM (.ou (pc c) (zc c))) fullShare (red m ρ c) : sProp 𝕄) = rPay m ρ c (.ou (pc c) (zc c)) := by
  have h : (rPay m ρ c (.ou (pc c) (zc c)) : sProp 𝕄) = owns (c : Thread nD τ) (spotM (.ou (pc c) (zc c))) fullShare (red m ρ (dv (pc c) (zc c))) := rfl
  rw [h, dv_pc_zc]

theorem pr_back (j : ℕ) (h1 : 12 ≤ j) (h2 : j < 15) : srcPts m ρ c j ⊢ (iprop(∃ X, owns (c : Thread nD τ) (srcM (.pr (zc c + ofs j))) fullShare X) : sProp 𝕄) := by
  have e1 : src c j = .pr (zc c + ofs j) := by unfold src; rw [if_neg (by omega), if_pos h2]
  have e2 : shr j = fullShare := if_pos h2
  unfold srcPts
  rw [e2]
  refine (owns_any c _ _ _).trans ?_
  rw [e1]

/-- The chunks of the plane sums, back from their transfers, make the buffer again. -/
theorem pr_whole : iprop(owns (c : Thread nD τ) (srcM (.pr (zc c))) fullShare (prv m ρ c (zc c)) ∗ bigSep (Finset.Ico 12 15) (srcPts m ρ c))
    ⊢ anyBuf (F := F) c cc0_scratch1 := by
  unfold anyBuf
  have e : ∀ z : Fin 4, z + 0 = z := by decide
  rw [pr_any c, pr_chunks c, e, bigSep_Ico_succ_bot (by decide), bigSep_Ico_succ_bot (by decide), bigSep_Ico_one]
  iintro ⟨H0, H1, H2, H3⟩
  ihave H1 := (pr_back m ρ c 12 (by decide) (by decide)) $$ H1
  ihave H2 := (pr_back m ρ c (12 + 1) (by decide) (by decide)) $$ H2
  ihave H3 := (pr_back m ρ c (12 + 1 + 1) (by decide) (by decide)) $$ H3
  isplitl [H3]; · iexact H3
  isplitl [H2]; · iexact H2
  isplitl [H1]; · iexact H1
  iexists _; iexact H0

/-- The result's chunks: its own, three passed on, twelve received. -/
theorem out_back : iprop(bigSep (Finset.Ico 15 21) (srcPts m ρ c) ∗ bigSep (Finset.Ico 21 30) (srcPts m ρ c) ∗ bigSep (Finset.Ico 18 30) (fun i => rPay m ρ c (rcv c i)))
    ⊢ ((c : Thread nD τ).loc cc0_stg2_0 ↦{fullShare} outAt m ρ : sProp 𝕄) := by
  refine BIBase.Entails.trans ?_ (out_whole m ρ c)
  rw [ou_all c (rPay m ρ c), ← own_split, own_rPay, cut (show 15 ≤ 18 by decide) (show 18 ≤ 30 by decide), cut (show 21 ≤ 24 by decide) (show 24 ≤ 30 by decide),
    cut (show 24 ≤ 27 by decide) (show 27 ≤ 30 by decide), cut (show 15 ≤ 16 by decide) (show 16 ≤ 18 by decide), cut (show 16 ≤ 17 by decide) (show 17 ≤ 18 by decide),
    show bigSep (Finset.Ico 15 16) (fun i => rPay m ρ c (rcv c i)) = bigSep (Finset.Ico 21 24) (srcPts m ρ c) from fwd_split m ρ c (k := 0) (by decide),
    show bigSep (Finset.Ico 16 17) (fun i => rPay m ρ c (rcv c i)) = bigSep (Finset.Ico 24 27) (srcPts m ρ c) from fwd_split m ρ c (k := 1) (by decide),
    show bigSep (Finset.Ico 17 18) (fun i => rPay m ρ c (rcv c i)) = bigSep (Finset.Ico 27 30) (srcPts m ρ c) from fwd_split m ρ c (k := 2) (by decide)]
  iintro ⟨Hou, ⟨H1, H2, H3⟩, HR⟩
  isplitl [H1 H2 H3 HR]
  · isplitl [H1 H2 H3]
    · isplitl [H1]; · iexact H1
      isplitl [H2] <;> iassumption
    · iexact HR
  iexact Hou

/-- The plane's and the column's buffers, with what landed in them. -/
theorem bufs_back : iprop(bigSep (Finset.Ico 0 15) (fun i => rPay m ρ c (rcv c i)) ∗ bigSep (Finset.range 4) (fun i => anyP c (ownSp c i)) ∗ anyP c (ownSp c 4))
    ⊢ iprop(anyBuf (F := F) c cc0_scratch2 ∗ anyBuf c cc0_scratch3) := by
  unfold anyBuf
  have hm (s : Finset ℕ) : bigSep s (fun i => rPay m ρ c (rcv c i)) ⊢ (bigSep s (fun i => anyP c (rcv c i)) : sProp 𝕄) :=
    bigSep_mono fun i _ => rPay_any m ρ c (rcv c i)
  rw [pb_any c, zb_any c, pb_all c, zb_all c, cut (show 0 ≤ 12 by decide) (show 12 ≤ 15 by decide)]
  iintro ⟨⟨HB, HZ⟩, HBo, HZo⟩
  isplitl [HB HBo]
  · isplitl [HB]
    · iapply (hm _); iexact HB
    · iexact HBo
  · isplitl [HZ]
    · iapply (hm _); iexact HZ
    · iexact HZo

theorem exit : iprop(BodyOut m ρ K c ∗ kept c)
    ⊢ (iprop(((bigSep Finset.univ fun k : Fin 67 => semVal (kcell (c, k)) 0)
        ∗ anyBuf (F := F) c cc0_scratch0 ∗ anyBuf c cc0_scratch1 ∗ anyBuf c cc0_scratch2 ∗ anyBuf c cc0_scratch3)
      ∗ (∃ W, owes (c : Thread nD τ) 0 W) ∗ ((c : Thread nD τ).loc cc0_stg0_0 ↦{fullShare} astg m ρ c) ∗ ((c : Thread nD τ).loc cc0_stg1_0 ↦{fullShare} bstg m ρ c)
      ∗ ((c : Thread nD τ).loc cc0_stg2_0 ↦{fullShare} outAt m ρ)) : sProp 𝕄) := by
  unfold BodyOut kept St
  have e : bigSep (Finset.range 30) (srcPts m ρ c) = iprop(bigSep (Finset.Ico 0 12) (srcPts m ρ c) ∗ bigSep (Finset.Ico 12 15) (srcPts m ρ c)
      ∗ bigSep (Finset.Ico 15 21) (srcPts m ρ c) ∗ bigSep (Finset.Ico 21 30) (srcPts m ρ c)) := by
    rw [Finset.range_eq_Ico, cut (show 0 ≤ 12 by decide) (show 12 ≤ 30 by decide), cut (show 12 ≤ 15 by decide) (show 15 ≤ 30 by decide),
      cut (show 15 ≤ 21 by decide) (show 21 ≤ 30 by decide)]
  rw [sem_split, owS_end, e]
  iintro ⟨⟨⟨-, HO, -, HzR, HzS, HzB⟩, Ha, Hb, ⟨HA0, HA3, HA2, HA1⟩, HP0, HL, HG, HA, HP, Hown, Hfwd⟩, Hk1, Hk2, HzO⟩
  ihave Hacc := (Entails.of_eq (acc_chunks_eq m ρ c).symm) $$ [HA0 HA3 HA2 HA1 HA]
  · isplitl [HA0]; · iexact HA0
    isplitl [HA3]; · iexact HA3
    isplitl [HA2]; · iexact HA2
    isplitl [HA1] <;> iassumption
  ihave Hpr := (pr_whole m ρ c) $$ [HP0 HP]
  · isplitl [HP0] <;> iassumption
  ihave Hbz := (bufs_back m ρ c) $$ [HL Hk1 Hk2]
  · isplitl [HL]; · iexact HL
    isplitl [Hk1] <;> iassumption
  icases Hbz with ⟨HB, HZ⟩
  ihave Hout := (out_back m ρ c) $$ [Hown Hfwd HG]
  · isplitl [Hown]; · iexact Hown
    isplitl [Hfwd] <;> iassumption
  isplitl [HzR HzS HzB HzO Hacc Hpr HB HZ]
  · isplitl [HzR HzS HzB HzO]
    · isplitl [HzS]; · iexact HzS
      isplitl [HzR]; · iexact HzR
      isplitl [HzO] <;> iassumption
    isplitl [Hacc]; · iexists _; iexact Hacc
    isplitl [Hpr]; · iexact Hpr
    isplitl [HB] <;> iassumption
  isplitl [HO]; · iexact HO
  isplitl [Ha]; · iexact Ha
  isplitl [Hb] <;> iassumption

end Cert.KernelIdeal.Prf

end
-- ==== Proof.KernelIdeal.Main.lean ====
/-
# The whole program

The proof data of the pipeline, the body obligation, and the run: the program terminates and leaves each array as the data say.
-/
module

public import proofs.«01_k».proof.Proof.KernelIdeal.Run
public import proofs.«01_k».proof.Proof.Gen.KernelIdeal.Frame
public import Idealize.ShloMosaic.Lib.Pipeline.Quiescent

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The proof data -/

/-- What a device starts with besides its buffers. -/
def start : sProp 𝕄 :=
  iprop((∃ K, records m ρ K ∗ linear c) ∗ (cred (tallyAt (barCell c) () 6) ∗ bigSep (Finset.range 30) fun i => cred (tallyAt (rCell c (rcv c i)) () N)) ∗ levAts L lv)

def anyScr : sProp 𝕄 := iprop(anyBuf (F := F) c cc0_scratch0 ∗ anyBuf c cc0_scratch1 ∗ anyBuf c cc0_scratch2 ∗ anyBuf c cc0_scratch3)
def Φ₀ : sProp 𝕄 := iprop(start m ρ c ∗ anyScr c)
def Φ₁ : sProp 𝕄 := iprop((bigSep Finset.univ fun k : Fin 67 => semVal (kcell (c, k)) 0) ∗ anyScr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => astg m ρ c
    | ⟨1, _⟩ => bstg m ρ c
    | ⟨2, _⟩ => outAt m ρ
  Φ t := match t with
    | ⟨0, _⟩ => Φ₀ m ρ c
    | ⟨_ + 1, _⟩ => Φ₁ c
  q _ := fullShare
  owed t := match t with
    | ⟨0, _⟩ => owB c 0
    | ⟨_ + 1, _⟩ => 0

/-! ## The body -/

/-- What the body is run from and leaves, written out. -/
def bodyPre : sProp 𝕄 :=
  iprop(Φ₀ m ρ c ∗ (∃ W, owes (c : Thread nD τ) (owB c 0) W) ∗ ((c : Thread nD τ).loc cc0_stg0_0 ↦{fullShare} astg m ρ c)
    ∗ ((c : Thread nD τ).loc cc0_stg1_0 ↦{fullShare} bstg m ρ c) ∗ anyBuf c cc0_stg2_0)
def bodyPost : sProp 𝕄 :=
  iprop(Φ₁ c ∗ (∃ W, owes (c : Thread nD τ) 0 W) ∗ ((c : Thread nD τ).loc cc0_stg0_0 ↦{fullShare} astg m ρ c)
    ∗ ((c : Thread nD τ).loc cc0_stg1_0 ↦{fullShare} bstg m ρ c) ∗ ((c : Thread nD τ).loc cc0_stg2_0 ↦{fullShare} outAt m ρ))

theorem sound_body (Q : PUnit → sProp 𝕄) : iprop(bodyPre m ρ c ∗ (bodyPost m ρ c -∗ Q ⟨⟩))
    ⊢ wp frame (wpE (defs₀ (F := F)) 𝒱₀ (c : Thread nD τ) none) Set.univ
        (cc0_body aW (Memref.isWhole_whole _) bW (Memref.isWhole_whole _) outW (Memref.isWhole_whole _) accW (Memref.isWhole_whole _)
          prW (Memref.isWhole_whole _) pbW (Memref.isWhole_whole _) zbW (Memref.isWhole_whole _) cc0_scratch4 cc0_scratch5 cc0_scratch6 cc0_scratch7) Q := by
  unfold bodyPre bodyPost Φ₀ start Φ₁ anyScr
  iintro ⟨⟨⟨⟨⟨%K, Hg⟩, Hc, HL⟩, H0, H1, H2, H3⟩, HO, Ha, Hb, Hout⟩, HQ⟩
  imod (enter m ρ K c) $$ [Hg Hc HL H2 H3 HO Hout] with ⟨HS, Hou, Hkept⟩
  · isplitl [Hg]; · iexact Hg
    isplitl [Hc]; · iexact Hc
    isplitl [HL]; · iexact HL
    isplitl [HO]; · iexact HO
    isplitl [H2]; · iexact H2
    isplitl [H3] <;> iassumption
  ihave H1 := (Entails.of_eq (pr_any (F := F) c)) $$ H1
  iapply (run_body m ρ K c Q)
  isplitr [Hkept HQ]
  · unfold BodyIn
    isplitl [HS]; · iexact HS
    isplitl [Ha]; · iexact Ha
    isplitl [Hb]; · iexact Hb
    isplitl [H0]; · iexact H0
    isplitl [H1] <;> iassumption
  · iintro HB
    iapply HQ
    iapply (exit m ρ K c)
    isplitl [HB] <;> iassumption

theorem before_0 (d) : (dats m ρ 0 c).before (0 : Fin 3) t0_0 d = astg m ρ c := by
  unfold Dat.before; rw [if_pos (fetch0_0 _)]; rfl
theorem before_1 (d) : (dats m ρ 0 c).before (1 : Fin 3) t0_0 d = bstg m ρ c := by
  unfold Dat.before; rw [if_pos (fetch0_1 _)]; rfl

/-- The same, as the pipeline states it. -/
def obPre : sProp 𝕄 :=
  iprop(Φ₀ m ρ c ∗ (dats m ρ 0 c).owesAt () (t0_0 : Fin cfg0.N).castSucc
    ∗ (∃ d, owns (c : Thread nD τ) (Memref.whole cc0_stg0_0) fullShare ((dats m ρ 0 c).before (0 : Fin 3) t0_0 d))
    ∗ (∃ d, owns (c : Thread nD τ) (Memref.whole cc0_stg1_0) fullShare ((dats m ρ 0 c).before (1 : Fin 3) t0_0 d))
    ∗ (∃ d, owns (c : Thread nD τ) (Memref.whole cc0_stg2_0) fullShare ((dats m ρ 0 c).before (2 : Fin 3) t0_0 d)))
def obPost : sProp 𝕄 :=
  iprop(Φ₁ c ∗ (dats m ρ 0 c).owesAt () (t0_0 : Fin cfg0.N).succ
    ∗ owns (c : Thread nD τ) (Memref.whole cc0_stg0_0) fullShare (astg m ρ c)
    ∗ owns (c : Thread nD τ) (Memref.whole cc0_stg1_0) fullShare (bstg m ρ c)
    ∗ owns (c : Thread nD τ) (Memref.whole cc0_stg2_0) fullShare (outAt m ρ))

theorem pre_of : obPre m ρ c ⊢ bodyPre m ρ c := by
  unfold obPre bodyPre Dat.owesAt Pipeline.owesWithin
  simp only [before_0, before_1, owns_whole]
  iintro ⟨HΦ, ⟨%W, %hW, HO⟩, ⟨%d0, Ha⟩, ⟨%d1, Hb⟩, ⟨%d2, Hc⟩⟩
  isplitl [HΦ]; · iexact HΦ
  isplitl [HO]; · iexists W; iexact HO
  isplitl [Ha]; · iexact Ha
  isplitl [Hb]; · iexact Hb
  iexists _; iexact Hc

theorem post_of : bodyPost m ρ c ⊢ obPost m ρ c := by
  unfold obPost bodyPost Dat.owesAt Pipeline.owesWithin
  simp only [owns_whole]
  iintro ⟨HΦ, ⟨%W, HO⟩, Ha, Hb, Hc⟩
  isplitl [HΦ]; · iexact HΦ
  isplitl [HO]
  · iexists W
    isplitr; · ipureintro; exact fun _ _ => Or.inl trivial
    iexact HO
  isplitl [Ha]; · iexact Ha
  isplitl [Hb] <;> iassumption

set_option maxRecDepth 20000 in
theorem body_obligation : BodyObligation (dats (F := F) m ρ 0 c) (defs₀ (F := F)) 𝒱₀ () Set.univ := fun t => by
  rw [fin_N0 t, bigSep_W0, bigSep_W0]
  show obPre m ρ c ⊢ wp frame (wpE (defs₀ (F := F)) 𝒱₀ (c : Thread nD τ) none) Set.univ
        (cc0_body aW (Memref.isWhole_whole _) bW (Memref.isWhole_whole _) outW (Memref.isWhole_whole _) accW (Memref.isWhole_whole _)
          prW (Memref.isWhole_whole _) pbW (Memref.isWhole_whole _) zbW (Memref.isWhole_whole _) cc0_scratch4 cc0_scratch5 cc0_scratch6 cc0_scratch7) (fun _ => obPost m ρ c)
  iintro H
  iapply (sound_body m ρ c fun _ => obPost m ρ c)
  isplitl [H]
  · iapply (pre_of m ρ c); iexact H
  · iintro H; iapply (post_of m ρ c); iexact H

/-! ## The launch -/

theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred (fun c => owB c 0) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ anyScr anyBuf
  iintro ⟨Hs, -, Hr⟩
  isplitl [Hs] <;> iassumption

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ anyScr anyBuf
  rw [← sems0_eq]
  iintro ⟨⟨Hu, Ho⟩, Hr⟩
  isplitl [Hu]; · iexact Hu
  isplitl [Ho] <;> iassumption

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every fair execution of the program on sixteen devices terminates; each array a
    window moves ends at the contents the proof data compute, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => owB c 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      ihave %hz := (tcUnscoped_read c s') $$ [Hu HSI]
      · isplitl [Hu] <;> iassumption
      imodintro
      isplitr; · ipureintro; exact hz
      iexact HSI)
    (hQ := fun _ h hs => ⟨fun c w => (h c).1 w, sem_eq_zero hs fun c => (h c).2.2⟩)

/-! ## The arrays after the run -/

theorem finalA_0 : finalA m ρ c (0 : Fin 3) = m ((c : Thread nD τ).loc main_arg0) := (dats (F := F) m ρ 0 c).arrAt_in (0 : Fin 3) rfl _
theorem finalA_1 : finalA m ρ c (1 : Fin 3) = m ((c : Thread nD τ).loc main_arg1) := (dats (F := F) m ρ 0 c).arrAt_in (1 : Fin 3) rfl _

/-- The program leaves its arguments as they were and every counter at zero. -/
theorem run_frame : θ_run defs (onTc (τ := τ) (main (F := F))) (s₀ m ρ) (fun r => r.2.sem = (fun _ => 0) ∧ ∀ c : Dev nD,
    r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h => ⟨h.2, fun c => ⟨(h.1 c (0 : Fin 3)).trans (finalA_0 m ρ c), (h.1 c (1 : Fin 3)).trans (finalA_1 m ρ c)⟩⟩) (run_main m ρ)

end Cert.KernelIdeal.Prf

end
-- ==== Proof.KernelIdeal.Value.lean ====
/-
# What the kernel computes

Every device's result is the whole product: the matrix product of its own blocks of the two arrays, summed over the sixteen
devices, entry by entry over the extended reals.
-/
module

public import proofs.«01_k».proof.Proof.KernelIdeal.Main
public import proofs.«01_k».proof.Proof.Gen.ReferenceIdeal.Run
public import proofs.«01_k».proof.Defs
public import Idealize.ShloMosaic.Lib.KernelVsHost
public import Idealize.ShloMosaic.Lib.StackMember
public import Idealize.ShloMosaic.Lib.Layout

@[expose] public section

noncomputable section

namespace Cert.KernelIdeal.Prf

open Cert.KernelIdeal Cert.KernelIdeal.Gen
open Idealize.ShloMosaic
open Idealize.ShloMosaic.TcCoe
open Idealize.ShloMosaic.ValueIdx (ix2 eq_ix2)
open Idealize.SL.Sem

/-! ## The arrays and their blocks -/

section Blocks

variable {F : FTy → Type} [FloatOps F]
variable (m : (ℓ : Loc nD τ sig) → Buf (Elt F) ℓ) (ρ : Dev nD → PrngReg) (c : Dev nD)

/-- The first operand as staged is the device's first argument. -/
theorem astg_eq : astg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
/-- The second operand as staged is the device's second argument. -/
theorem bstg_eq : bstg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _
/-- The result array ends holding what the body left in the result's staging buffer. -/
theorem finalA_2 : finalA m ρ c (2 : Fin 3) = outAt m ρ := by
  have hz : (fun a => (win0_2.index (0 : Fin 1)) a * main_v1.ty.shape.size a) = fun _ => 0 :=
    funext fun a => by fin_cases a <;> decide
  have hr := fun f => Memref.read_access_unit_zero (Elt F) main_v1 hz (fun a => by fin_cases a <;> decide) f
  have ho : (win0_2.blk (0 : Fin 1)).view.read (Elt F) (finalA m ρ c (2 : Fin 3)) = outAt m ρ := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (hr _).symm.trans ho

/-- The run, read at the three arrays: every device's result is `outAt`, its arguments what they were. -/
theorem run_value : θ_run defs (onTc (τ := τ) (main (F := F))) (s₀ m ρ) (fun r => ∀ c : Dev nD,
    r.2.mem ((c : Thread nD τ).loc main_v1) = outAt m ρ
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h.1 c (2 : Fin 3)).trans (finalA_2 m ρ c),
    (h.1 c (0 : Fin 3)).trans (finalA_0 m ρ c), (h.1 c (1 : Fin 3)).trans (finalA_1 m ρ c)⟩) (run_main m ρ)

end Blocks

/-! ## Sums -/

/-- A sum around a ring of four, from any place, going back. -/
theorem sum_back {M : Type} [AddCommMonoid M] (f : Fin 4 → M) (q : Fin 4) :
    f q + f (q - 1) + f (q - 2) + f (q - 3) = ∑ i, f i := by
  rw [Fin.sum_univ_four]
  match q with
  | 0 => show f 0 + f 3 + f 2 + f 1 = _; abel
  | 1 => show f 1 + f 0 + f 3 + f 2 = _; abel
  | 2 => show f 2 + f 1 + f 0 + f 3 = _; abel
  | 3 => show f 3 + f 2 + f 1 + f 0 = _; abel

/-- A sum over planes and positions is a sum over devices. -/
theorem sum_dev {M : Type} [AddCommMonoid M] (f : Dev nD → M) : ∑ z, ∑ p, f (dv p z) = ∑ d, f d := by
  rw [← Fintype.sum_prod_type' (f := fun z p => f (dv p z))]
  exact Fintype.sum_equiv ⟨fun t => dv t.2 t.1, fun d => (zc d, pc d), fun t => by show (zc (dv t.2 t.1), pc (dv t.2 t.1)) = t; rw [zc_dv, pc_dv], fun d => dv_pc_zc d⟩ _ _ fun _ => rfl

/-- A sum over sixteen stretches of 384 is a sum over their 6144 places. -/
theorem sum_stretch {M : Type} [AddCommMonoid M] (f : Fin 6144 → M) :
    ∑ d : Fin 16, ∑ k : Fin 384, f ⟨d.val * 384 + k.val, by have := d.isLt; have := k.isLt; omega⟩ = ∑ k, f k := by
  rw [← Fintype.sum_prod_type' (f := fun (d : Fin 16) (k : Fin 384) => f ⟨d.val * 384 + k.val, by have := d.isLt; have := k.isLt; omega⟩)]
  refine Fintype.sum_equiv (finProdFinEquiv (m := 16) (n := 384)) _ _ fun t => congrArg f (Fin.ext ?_)
  show t.1.val * 384 + t.2.val = t.2.val + 384 * t.1.val
  omega

/-! ## The result over the extended reals -/

section Value

variable (m : (ℓ : Loc nD τ sig) → Buf (Elt Ideal) ℓ) (ρ : Dev nD → PrngReg) (c : Dev nD)

/-- The four-term sum, entry by entry. -/
theorem add3_apply (a x y z : Chk Ideal) (j) : add3 a x y z j = (a j + x j + y j + z j : EReal) := rfl

/-- A plane's sum of a chunk: over the plane's four devices. -/
theorem prv_apply (p z zz : Fin 4) (j) : prv m ρ (dv p z) zz j = (∑ q, aval m ρ (dv q z) p zz j : EReal) := by
  unfold prv
  rw [add3_apply, pc_dv, zc_dv]
  exact sum_back (M := EReal) (fun q => aval m ρ (dv q z) p zz j) p

/-- A device's reduced chunk: over all the devices. -/
theorem red_apply (p z : Fin 4) (j) : red m ρ (dv p z) j = (∑ d, aval m ρ d p z j : EReal) := by
  unfold red
  rw [add3_apply, pc_dv, zc_dv, prv_apply, prv_apply, prv_apply, prv_apply]
  exact (sum_back (M := EReal) (fun y => ∑ q, aval m ρ (dv q y) p z j) z).trans (sum_dev (M := EReal) fun d => aval m ρ d p z j)

/-- A place of the result, found again from its chunk and its place there. -/
theorem rectC_cIx (i : S768x768.Idx) (h1 h2) : (rectC ⟨(i 0).val / 192, h1⟩ ⟨(i 0).val % 192 / 48, h2⟩).emb (cIx i) = i := by
  funext a
  apply Fin.ext
  refine (Rect.emb_apply _ _ _).trans ?_
  fin_cases a
  · show 192 * ((i 0).val / 192) + 48 * ((i 0).val % 192 / 48) + 1 * ((i 0).val % 48) = (i 0).val
    omega
  · show 0 + 1 * (i 1).val = (i 1).val
    omega

/-- The result is the sum of the devices' local products. -/
theorem outAt_apply (i : S768x768.Idx) : outAt m ρ i = Finset.sum (M := EReal) Finset.univ fun d => mval m ρ d i := by
  unfold outAt
  refine (red_apply m ρ _ _ _).trans ?_
  refine Finset.sum_congr rfl fun d _ => ?_
  unfold aval
  rw [rectC_cIx]

/-- A device's two arguments, as matrices of extended reals. -/
def argA : Vec Ideal S768x384 .f32 := m ((c : Thread nD τ).loc main_arg0)
def argB : Vec Ideal S384x768 .f32 := m ((c : Thread nD τ).loc main_arg1)

/-- A device's local product, entry by entry. -/
theorem mval_apply (r n : Fin 768) : mval m ρ c (ix2 r n)
    = (∑ k : Fin 384, argA m c (ix2 r k) * argB m c (ix2 k n) : EReal) := by
  unfold mval k0_pay1
  simp only [shapeCast_self]
  rw [matmul_zero_eq_dotGeneral, astg_eq, bstg_eq]
  exact StackMember.dotGeneral_plain_apply none (argA m c) (argB m c) r n

/-- The local products, when the arguments are blocks of two matrices, sum to the product of the matrices. -/
theorem sum_mval (A : Vec Ideal ⟨2, ![768, 6144]⟩ .f32) (B : Vec Ideal ⟨2, ![6144, 768]⟩ .f32)
    (hA : ∀ d : Dev nD, argA m d = Layout.block ⟨2, ![768, 384]⟩ ⟨2, ![768, 6144]⟩ 1 16 d A)
    (hB : ∀ d : Dev nD, argB m d = Layout.block ⟨2, ![384, 768]⟩ ⟨2, ![6144, 768]⟩ 0 16 d B) (r n : Fin 768) :
    (Finset.sum (M := EReal) Finset.univ fun d => mval m ρ d (ix2 r n)) = (∑ k : Fin 6144, A (ix2 r k) * B (ix2 k n) : EReal) := by
  have e (d : Dev nD) : (mval m ρ d (ix2 r n) : EReal) = (∑ k : Fin 384, A (ix2 r ⟨d.val * 384 + k.val, by have h : d.val < 16 := d.isLt; have := k.isLt; omega⟩)
      * B (ix2 ⟨d.val * 384 + k.val, by have h : d.val < 16 := d.isLt; have := k.isLt; omega⟩ n) : EReal) := by
    rw [mval_apply, hA, hB]
    refine Finset.sum_congr rfl fun k _ => congrArg₂ (fun a b : EReal => a * b) (congrArg A ?_) (congrArg B ?_)
    · funext a; fin_cases a <;> rfl
    · funext a; fin_cases a <;> rfl
  exact (Finset.sum_congr rfl fun d _ => e d).trans (sum_stretch (M := EReal) fun k => A (ix2 r k) * B (ix2 k n))

/-- The result is the product of the two matrices. -/
theorem outAt_eq (A : Vec Ideal ⟨2, ![768, 6144]⟩ .f32) (B : Vec Ideal ⟨2, ![6144, 768]⟩ .f32)
    (hA : ∀ d : Dev nD, argA m d = Layout.block ⟨2, ![768, 384]⟩ ⟨2, ![768, 6144]⟩ 1 16 d A)
    (hB : ∀ d : Dev nD, argB m d = Layout.block ⟨2, ![384, 768]⟩ ⟨2, ![6144, 768]⟩ 0 16 d B) :
    outAt m ρ = (Host.dotGeneral (F := Ideal) (φ₁ := .f32) (φ₂ := .f32) (DotDims.plain 768 6144 768) none A B : FVec Ideal _ _) := by
  funext i
  have h := (outAt_apply m ρ (ix2 (i 0) (i 1))).trans ((sum_mval m ρ A B hA hB (i 0) (i 1)).trans
    (StackMember.dotGeneral_plain_apply (φ₁ := .f32) (φ₂ := .f32) none A B (i 0) (i 1)).symm)
  exact (congrArg (outAt m ρ) (eq_ix2 i)).trans (h.trans (congrArg (Host.dotGeneral (F := Ideal) (φ₁ := .f32) (φ₂ := .f32) (DotDims.plain 768 6144 768) none A B) (eq_ix2 i).symm))

end Value

/-- Every device's result is the whole product, when its arguments are its blocks of the two matrices. -/
theorem algebraic : Cert.algebraic_KernelIdeal_ReferenceIdeal := by
  intro m ρ m' ρ' _ hagree
  exact ⟨_, (θ_run defs _ _).mono (fun _ h c => ⟨(h c).1.trans (outAt_eq m ρ _ _ (fun d => (hagree d).1) fun d => (hagree d).2), (h c).2⟩)
      (run_value (F := Ideal) m ρ),
    (θ_run Cert.ReferenceIdeal.defs _ _).mono (fun _ h => h 0) (Cert.ReferenceIdeal.Value.run (F := Ideal) m' ρ')⟩

end Cert.KernelIdeal.Prf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Main
public import proofs.«01_k».proof.Proof.KernelIdeal.Main
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

/-- The kernel runs, leaves its arguments as they were, and ends with every counter at zero. -/
theorem frame_kernel : Cert.quiescent_Kernel := fun m ρ _ =>
  (θ_run Cert.Kernel.defs _ _).mono (fun _ h => ⟨h.2, h.1⟩) (Cert.Kernel.Prf.run_frame (F := Bits) m ρ)

/-- So does its idealization. -/
theorem frame_ideal : Cert.quiescent_KernelIdeal := fun m ρ _ =>
  (θ_run Cert.KernelIdeal.defs _ _).mono (fun _ h => ⟨h.2, h.1⟩) (Cert.KernelIdeal.Prf.run_frame (F := Ideal) m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_ideal, frame_reference, trivial, Cert.KernelIdeal.Prf.algebraic⟩

end Cert.Proof

end
